-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_tame [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_tame [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_tame [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_tame : Cert.Pre_inputs_tame.Facts),
    quiescent_Kernel (hKernel := hKernel)
    ∧ quiescent_KernelIdeal (hKernelIdeal := hKernelIdeal)
    ∧ quiescent_KernelIdeal_pre_inputs_tame (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal_pre_inputs_tame (hKernelIdeal := hKernelIdeal) (hReferenceIdeal := hReferenceIdeal) (hPre_inputs_tame := hPre_inputs_tame)
-- ==== Pre_inputs_tame.lean ====
abbrev S64x8192x48 : Shape := ⟨3, ![64, 8192, 48]⟩
abbrev S64x8192 : Shape := ⟨2, ![64, 8192]⟩
abbrev S48x48 : Shape := ⟨2, ![48, 48]⟩
abbrev S48 : Shape := ⟨1, ![48]⟩
abbrev S_ : Shape := ⟨0, ![]⟩

class Facts : Prop where
  bcast_S_S64x8192x48 : S_.BroadcastsInDim S64x8192x48 (![] : Fin 0 → Fin S64x8192x48.rank)
  bcast_S_S64x8192 : S_.BroadcastsInDim S64x8192 (![] : Fin 0 → Fin S64x8192.rank)
  bcast_S_S48x48 : S_.BroadcastsInDim S48x48 (![] : Fin 0 → Fin S48x48.rank)
  bcast_S_S48 : S_.BroadcastsInDim S48 (![] : Fin 0 → Fin S48.rank)

variable [Facts]

def fn {F : FTy → Type} [FloatOps F] (main_arg0 : FVec F S64x8192x48 .f32) (main_arg1 : IVec S64x8192 32) (main_arg2 : IVec S64x8192 1) (main_arg3 : FVec F S48x48 .f32) (main_arg4 : FVec F S48 .f32) (main_arg5 : FVec F S48 .f32) : IVec S64x8192x48 1 × IVec S64x8192 1 × IVec S64x8192 1 × IVec S48x48 1 × IVec S48 1 :=
  let main_v0 : FVec F S64x8192x48 .f32 := Host.absf main_arg0
  let main_cst : FVec F S_ .f32 := constant S_ .f32 0x7F800000#32
  let main_v1 : FVec F S64x8192x48 .f32 := broadcastInDim S64x8192x48 ![] bcast_S_S64x8192x48 main_cst
  let main_v2 : IVec S64x8192x48 1 := cmpf .olt main_v0 main_v1
  let main_c : IVec S_ 32 := constantI S_ 32 0#32
  let main_v3 : IVec S64x8192 32 := broadcastInDim S64x8192 ![] bcast_S_S64x8192 main_c
  let main_v4 : IVec S64x8192 1 := cmpi .sge main_arg1 main_v3
  let main_c_0 : IVec S_ 32 := constantI S_ 32 48#32
  let main_v5 : IVec S64x8192 32 := broadcastInDim S64x8192 ![] bcast_S_S64x8192 main_c_0
  let main_v6 : IVec S64x8192 1 := cmpi .slt main_arg1 main_v5
  let main_v7 : IVec S64x8192 1 := andi main_v4 main_v6
  let main_v8 : FVec F S48x48 .f32 := Host.absf main_arg3
  let main_cst_1 : FVec F S_ .f32 := constant S_ .f32 0x7F800000#32
  let main_v9 : FVec F S48x48 .f32 := broadcastInDim S48x48 ![] bcast_S_S48x48 main_cst_1
  let main_v10 : IVec S48x48 1 := cmpf .olt main_v8 main_v9
  let main_v11 : FVec F S48 .f32 := Host.absf main_arg4
  let main_cst_2 : FVec F S_ .f32 := constant S_ .f32 0x7F800000#32
  let main_v12 : FVec F S48 .f32 := broadcastInDim S48 ![] bcast_S_S48 main_cst_2
  let main_v13 : IVec S48 1 := cmpf .olt main_v11 main_v12
  (main_v2, main_v7, main_arg2, main_v10, main_v13)
-- ==== Kernel.lean ====
abbrev S64x8192x48 : Shape := ⟨3, ![64, 8192, 48]⟩
abbrev S64x8192 : Shape := ⟨2, ![64, 8192]⟩
abbrev S48x48 : Shape := ⟨2, ![48, 48]⟩
abbrev S48 : Shape := ⟨1, ![48]⟩
abbrev S8192x64x48 : Shape := ⟨3, ![8192, 64, 48]⟩
abbrev S2x32x8192 : Shape := ⟨3, ![2, 32, 8192]⟩
abbrev S2x8192x32 : Shape := ⟨3, ![2, 8192, 32]⟩
abbrev S1x48 : Shape := ⟨2, ![1, 48]⟩
abbrev S2x1x32 : Shape := ⟨3, ![2, 1, 32]⟩
abbrev S512x32x48 : Shape := ⟨3, ![512, 32, 48]⟩
abbrev S1x512x32 : Shape := ⟨3, ![1, 512, 32]⟩
abbrev S1x1x32 : Shape := ⟨3, ![1, 1, 32]⟩
abbrev S32x48 : Shape := ⟨2, ![32, 48]⟩
abbrev S1x32 : Shape := ⟨2, ![1, 32]⟩
abbrev S32x1 : Shape := ⟨2, ![32, 1]⟩
abbrev S1x32x48 : Shape := ⟨3, ![1, 32, 48]⟩
abbrev S512x32 : Shape := ⟨2, ![512, 32]⟩
abbrev S512x32x1 : Shape := ⟨3, ![512, 32, 1]⟩
abbrev S511x32 : Shape := ⟨2, ![511, 32]⟩
abbrev S16384x48 : Shape := ⟨2, ![16384, 48]⟩
abbrev S32 : Shape := ⟨1, ![32]⟩

abbrev nBuf : Space → Nat
  | .hbm => 12
  | .vmem => 15
  | .smem => 0
  | _ => 0

abbrev bufTy : (tb : Table) → Fin (tcTables nBuf tb) → BufTy
  | .hbm, ⟨0, _⟩ => ⟨S64x8192x48, .f32⟩
  | .hbm, ⟨1, _⟩ => ⟨S64x8192, .i32⟩
  | .hbm, ⟨2, _⟩ => ⟨S64x8192, .i1⟩
  | .hbm, ⟨3, _⟩ => ⟨S48x48, .f32⟩
  | .hbm, ⟨4, _⟩ => ⟨S48, .f32⟩
  | .hbm, ⟨5, _⟩ => ⟨S48, .f32⟩
  | .hbm, ⟨6, _⟩ => ⟨S8192x64x48, .f32⟩
  | .hbm, ⟨7, _⟩ => ⟨S2x32x8192, .i32⟩
  | .hbm, ⟨8, _⟩ => ⟨S2x8192x32, .i32⟩
  | .hbm, ⟨9, _⟩ => ⟨S1x48, .f32⟩
  | .hbm, ⟨10, _⟩ => ⟨S1x48, .f32⟩
  | .hbm, ⟨11, _⟩ => ⟨S2x1x32, .f32⟩
  | .local _ .vmem, ⟨0, _⟩ => ⟨S512x32x48, .f32⟩
  | .local _ .vmem, ⟨1, _⟩ => ⟨S512x32x48, .f32⟩
  | .local _ .vmem, ⟨2, _⟩ => ⟨S1x512x32, .i32⟩
  | .local _ .vmem, ⟨3, _⟩ => ⟨S1x512x32, .i32⟩
  | .local _ .vmem, ⟨4, _⟩ => ⟨S48x48, .f32⟩
  | .local _ .vmem, ⟨5, _⟩ => ⟨S1x48, .f32⟩
  | .local _ .vmem, ⟨6, _⟩ => ⟨S1x48, .f32⟩
  | .local _ .vmem, ⟨7, _⟩ => ⟨S1x1x32, .f32⟩
  | .local _ .vmem, ⟨8, _⟩ => ⟨S1x1x32, .f32⟩
  | .local _ .vmem, ⟨9, _⟩ => ⟨S32x48, .f32⟩
  | .local _ .vmem, ⟨10, _⟩ => ⟨S32x48, .f32⟩
  | .local _ .vmem, ⟨11, _⟩ => ⟨S1x32, .i32⟩
  | .local _ .vmem, ⟨12, _⟩ => ⟨S32x1, .f32⟩
  | .local _ .vmem, ⟨13, _⟩ => ⟨S32x1, .f32⟩
  | .local _ .vmem, ⟨14, _⟩ => ⟨S32x1, .f32⟩
  | _, _ => ⟨S64x8192x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_14 : BitVec 32 := 0#32
  let c512_i32 : BitVec 32 := 512#32
  let v15 : BitVec 32 := Scalar.addi c0_i32_14 c512_i32
  let c1_i32 : BitVec 32 := 1#32
  ⟨c0_i32_14, v15, c1_i32⟩
def k0_off1 (k0_t1 : Fin k0_t1_loop.trips) : Fin 3 → Nat :=
  let c0_i32_14 : BitVec 32 := 0#32
  let c1_i32 : BitVec 32 := 1#32
  let arg14 : BitVec 32 := Scf.iv c0_i32_14 c1_i32 k0_t1
  let v82 : Index := Scalar.indexCast arg14
  let c0_43 : Index := 0#32
  let c0_44 : Index := 0#32
  ![v82.toNat, 0, 0]
def k0_cond2 (i : grid0.Coords) : BitVec 1 :=
  let arg1 : BitVec 32 := BitVec.ofNat 32 (i 1).val
  let c15_i32 : BitVec 32 := 15#32
  let v1 : BitVec 1 := Scalar.cmpi .eq arg1 c15_i32
  let v80 : BitVec 32 := Scalar.extui v1
  let c0_i32_42 : BitVec 32 := 0#32
  let v81 : BitVec 1 := Scalar.cmpi .ne v80 c0_i32_42
  v81

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x32x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S48x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S64x8192x48 : Shape := ⟨3, ![64, 8192, 48]⟩
abbrev S64x8192 : Shape := ⟨2, ![64, 8192]⟩
abbrev S48x48 : Shape := ⟨2, ![48, 48]⟩
abbrev S48 : Shape := ⟨1, ![48]⟩
abbrev S1x48 : Shape := ⟨2, ![1, 48]⟩
abbrev S64x1x48 : Shape := ⟨3, ![64, 1, 48]⟩
abbrev S64x48 : Shape := ⟨2, ![64, 48]⟩
abbrev S8192x64x48 : Shape := ⟨3, ![8192, 64, 48]⟩
abbrev S8191x64x48 : Shape := ⟨3, ![8191, 64, 48]⟩
abbrev S8192x64 : Shape := ⟨2, ![8192, 64]⟩
abbrev S8191x64 : Shape := ⟨2, ![8191, 64]⟩
abbrev S_ : Shape := ⟨0, ![]⟩
abbrev S1x64x48 : Shape := ⟨3, ![1, 64, 48]⟩
abbrev S1x64 : Shape := ⟨2, ![1, 64]⟩
abbrev S64 : Shape := ⟨1, ![64]⟩
abbrev S64x48x1 : Shape := ⟨3, ![64, 48, 1]⟩
abbrev S1x48x48 : Shape := ⟨3, ![1, 48, 48]⟩
abbrev S64x48x48 : Shape := ⟨3, ![64, 48, 48]⟩
abbrev S64x1 : Shape := ⟨2, ![64, 1]⟩
abbrev S64x8192x1 : Shape := ⟨3, ![64, 8192, 1]⟩
abbrev S64x8192x1x1 : Shape := ⟨4, ![64, 8192, 1, 1]⟩
abbrev S64x8191 : Shape := ⟨2, ![64, 8191]⟩
abbrev S64x8191x1 : Shape := ⟨3, ![64, 8191, 1]⟩
abbrev S64x8191x48 : Shape := ⟨3, ![64, 8191, 48]⟩
abbrev S64x8191x1x1 : Shape := ⟨4, ![64, 8191, 1, 1]⟩
abbrev S64x1x1 : Shape := ⟨3, ![64, 1, 1]⟩
abbrev S2x1x32 : Shape := ⟨3, ![2, 1, 32]⟩

abbrev nBuf : Space → Nat
  | .hbm => 167
  | .vmem => 0
  | .smem => 0
  | _ => 0

abbrev hbmTy0_0 (i : Nat) : BufTy := match i % 128 with
  | 0 => ⟨S64x8192x48, .f32⟩
  | 1 => ⟨S64x8192, .i32⟩
  | 2 => ⟨S64x8192, .i1⟩
  | 3 => ⟨S48x48, .f32⟩
  | 4 => ⟨S48, .f32⟩
  | 5 => ⟨S48, .f32⟩
  | 6 => ⟨S1x48, .f32⟩
  | 7 => ⟨S64x1x48, .f32⟩
  | 8 => ⟨S64x48, .f32⟩
  | 9 => ⟨S64x48, .f32⟩
  | 10 => ⟨S64x48, .f32⟩
  | 11 => ⟨S8192x64x48, .f32⟩
  | 12 => ⟨S8191x64x48, .f32⟩
  | 13 => ⟨S8192x64, .i1⟩
  | 14 => ⟨S8191x64, .i1⟩
  | 15 => ⟨S_, .i32⟩
  | 16 => ⟨S8191x64x48, .f32⟩
  | 17 => ⟨S8191x64, .i1⟩
  | 18 => ⟨S48x48, .f32⟩
  | 19 => ⟨S_, .i32⟩
  | 20 => ⟨S64x48, .f32⟩
  | 21 => ⟨S_, .i32⟩
  | 22 => ⟨S_, .i1⟩
  | 23 => ⟨S_, .i32⟩
  | 24 => ⟨S_, .i32⟩
  | 25 => ⟨S1x64x48, .f32⟩
  | 26 => ⟨S64x48, .f32⟩
  | 27 => ⟨S_, .i32⟩
  | 28 => ⟨S1x64, .i1⟩
  | 29 => ⟨S64, .i1⟩
  | 30 => ⟨S64x48x1, .f32⟩
  | 31 => ⟨S1x48x48, .f32⟩
  | 32 => ⟨S64x48x48, .f32⟩
  | 33 => ⟨S64x48x48, .f32⟩
  | 34 => ⟨S64x48x48, .f32⟩
  | 35 => ⟨S64x1x48, .f32⟩
  | 36 => ⟨S64x48x48, .f32⟩
  | 37 => ⟨S64x48x48, .f32⟩
  | 38 => ⟨S_, .f32⟩
  | 39 => ⟨S64x48, .f32⟩
  | 40 => ⟨S64x1x48, .f32⟩
  | 41 => ⟨S64x1x48, .f32⟩
  | 42 => ⟨S_, .f32⟩
  | 43 => ⟨S64x1x48, .f32⟩
  | 44 => ⟨S64x1x48, .i1⟩
  | 45 => ⟨S_, .f32⟩
  | 46 => ⟨S_, .f32⟩
  | 47 => ⟨S64x1x48, .f32⟩
  | 48 => ⟨S64x1x48, .f32⟩
  | 49 => ⟨S64x48x48, .f32⟩
  | 50 => ⟨S64x48x48, .f32⟩
  | 51 => ⟨S64x48x48, .f32⟩
  | 52 => ⟨S_, .f32⟩
  | 53 => ⟨S64x48, .f32⟩
  | 54 => ⟨S64x48, .f32⟩
  | 55 => ⟨S64x48, .f32⟩
  | 56 => ⟨S64x48, .f32⟩
  | 57 => ⟨S64x1, .i1⟩
  | 58 => ⟨S64x48, .i1⟩
  | 59 => ⟨S64x48, .f32⟩
  | 60 => ⟨S_, .i32⟩
  | 61 => ⟨S_, .i32⟩
  | 62 => ⟨S1x48, .f32⟩
  | 63 => ⟨S64x48, .f32⟩
  | 64 => ⟨S64x48, .f32⟩
  | 65 => ⟨S_, .f32⟩
  | 66 => ⟨S64, .f32⟩
  | 67 => ⟨S64x1, .f32⟩
  | 68 => ⟨S64x1, .f32⟩
  | 69 => ⟨S_, .f32⟩
  | 70 => ⟨S64x1, .f32⟩
  | 71 => ⟨S64x1, .i1⟩
  | 72 => ⟨S_, .f32⟩
  | 73 => ⟨S_, .f32⟩
  | 74 => ⟨S64x1, .f32⟩
  | 75 => ⟨S64x1, .f32⟩
  | 76 => ⟨S64x48, .f32⟩
  | 77 => ⟨S64x48, .f32⟩
  | 78 => ⟨S64x48, .f32⟩
  | 79 => ⟨S_, .f32⟩
  | 80 => ⟨S64, .f32⟩
  | 81 => ⟨S64, .f32⟩
  | 82 => ⟨S64, .f32⟩
  | 83 => ⟨S64, .f32⟩
  | 84 => ⟨S64x8192, .f32⟩
  | 85 => ⟨S64x8192x1, .i32⟩
  | 86 => ⟨S_, .i32⟩
  | 87 => ⟨S64x8192x1, .i32⟩
  | 88 => ⟨S64x8192x1, .i1⟩
  | 89 => ⟨S_, .i32⟩
  | 90 => ⟨S64x8192x1, .i32⟩
  | 91 => ⟨S64x8192x1, .i32⟩
  | 92 => ⟨S64x8192x1, .i32⟩
  | 93 => ⟨S64x8192x1x1, .i32⟩
  | 94 => ⟨S64x8192x1, .f32⟩
  | 95 => ⟨S64x8192, .f32⟩
  | 96 => ⟨S64x1, .i32⟩
  | 97 => ⟨S64, .i32⟩
  | 98 => ⟨S_, .i32⟩
  | 99 => ⟨S64, .i32⟩
  | 100 => ⟨S64, .i1⟩
  | 101 => ⟨S_, .i32⟩
  | 102 => ⟨S64, .i32⟩
  | 103 => ⟨S64, .i32⟩
  | 104 => ⟨S64, .i32⟩
  | 105 => ⟨S64x1, .i32⟩
  | 106 => ⟨S64, .f32⟩
  | 107 => ⟨S64x8192, .f32⟩
  | 108 => ⟨S_, .f32⟩
  | 109 => ⟨S64, .f32⟩
  | 110 => ⟨S64, .f32⟩
  | 111 => ⟨S64x8191, .i32⟩
  | 112 => ⟨S_, .i32⟩
  | 113 => ⟨S64x8191, .i32⟩
  | 114 => ⟨S64x8191, .i1⟩
  | 115 => ⟨S_, .i32⟩
  | 116 => ⟨S64x8191, .i32⟩
  | 117 => ⟨S64x8191, .i32⟩
  | 118 => ⟨S64x8191, .i32⟩
  | 119 => ⟨S64x8191x1, .i32⟩
  | 120 => ⟨S64x8191x48, .f32⟩
  | 121 => ⟨S64x8191, .i32⟩
  | 122 => ⟨S64x8191x1, .i32⟩
  | 123 => ⟨S_, .i32⟩
  | 124 => ⟨S64x8191x1, .i32⟩
  | 125 => ⟨S64x8191x1, .i1⟩
  | 126 => ⟨S_, .i32⟩
  | 127 => ⟨S64x8191x1, .i32⟩
  | _ => ⟨S64x8192x48, .f32⟩

abbrev hbmTy0_1 (i : Nat) : BufTy := match i % 128 with
  | 0 => ⟨S64x8191x1, .i32⟩
  | 1 => ⟨S64x8191x1, .i32⟩
  | 2 => ⟨S64x8191x1x1, .i32⟩
  | 3 => ⟨S64x8191x1, .f32⟩
  | 4 => ⟨S64x8191, .f32⟩
  | 5 => ⟨S64x8191, .f32⟩
  | 6 => ⟨S64x8191, .f32⟩
  | 7 => ⟨S_, .f32⟩
  | 8 => ⟨S64, .f32⟩
  | 9 => ⟨S64, .f32⟩
  | 10 => ⟨S64x8192, .i32⟩
  | 11 => ⟨S_, .i32⟩
  | 12 => ⟨S64, .i32⟩
  | 13 => ⟨S_, .i32⟩
  | 14 => ⟨S64, .i32⟩
  | 15 => ⟨S64, .i32⟩
  | 16 => ⟨S64x1, .i32⟩
  | 17 => ⟨S_, .i32⟩
  | 18 => ⟨S64x1, .i32⟩
  | 19 => ⟨S64x1, .i1⟩
  | 20 => ⟨S_, .i32⟩
  | 21 => ⟨S64x1, .i32⟩
  | 22 => ⟨S64x1, .i32⟩
  | 23 => ⟨S64x1, .i32⟩
  | 24 => ⟨S64x1x1, .i32⟩
  | 25 => ⟨S64x1, .i32⟩
  | 26 => ⟨S64, .i32⟩
  | 27 => ⟨S_, .i32⟩
  | 28 => ⟨S64, .i32⟩
  | 29 => ⟨S64, .i1⟩
  | 30 => ⟨S_, .i32⟩
  | 31 => ⟨S64, .i32⟩
  | 32 => ⟨S64, .i32⟩
  | 33 => ⟨S64, .i32⟩
  | 34 => ⟨S64x1, .i32⟩
  | 35 => ⟨S64, .f32⟩
  | 36 => ⟨S64, .f32⟩
  | 37 => ⟨S64, .f32⟩
  | 38 => ⟨S2x1x32, .f32⟩
  | _ => ⟨S64x8192x48, .f32⟩

abbrev hbmTy (i : Nat) : BufTy := match i / 128 with
  | 0 => hbmTy0_0 i
  | 1 => hbmTy0_1 i
  | _ => ⟨S64x8192x48, .f32⟩

abbrev bufTy : (tb : Table) → Fin (tcTables nBuf tb) → BufTy
  | .hbm, ⟨i, _⟩ => hbmTy i
  | _, _ => ⟨S64x8192x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_while0c_c_23 : Ref sig .tc := ⟨.hbm, 21, rfl⟩
abbrev main_while0c_v93 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v93 : Ref sig .tc := ⟨.hbm, 26, rfl⟩
abbrev main_while0b_call1_c : Ref sig .tc := ⟨.hbm, 27, rfl⟩
abbrev main_while0b_call1_v0 : Ref sig .tc := ⟨.hbm, 28, rfl⟩
abbrev main_while0b_v94 : Ref sig .tc := ⟨.hbm, 29, rfl⟩
abbrev main_while0b_v95 : Ref sig .tc := ⟨.hbm, 30, rfl⟩
abbrev main_while0b_v96 : Ref sig .tc := ⟨.hbm, 31, rfl⟩
abbrev main_while0b_v97 : Ref sig .tc := ⟨.hbm, 32, rfl⟩
abbrev main_while0b_v98 : Ref sig .tc := ⟨.hbm, 33, rfl⟩
abbrev main_while0b_v99 : Ref sig .tc := ⟨.hbm, 34, rfl⟩
abbrev main_while0b_v100 : Ref sig .tc := ⟨.hbm, 35, rfl⟩
abbrev main_while0b_v101 : Ref sig .tc := ⟨.hbm, 36, rfl⟩
abbrev main_while0b_v102 : Ref sig .tc := ⟨.hbm, 37, rfl⟩
abbrev main_while0b_cst_23 : Ref sig .tc := ⟨.hbm, 38, rfl⟩
abbrev main_while0b_v103 : Ref sig .tc := ⟨.hbm, 39, rfl⟩
abbrev main_while0b_v104 : Ref sig .tc := ⟨.hbm, 40, rfl⟩
abbrev main_while0b_v105 : Ref sig .tc := ⟨.hbm, 41, rfl⟩
abbrev main_while0b_cst_24 : Ref sig .tc := ⟨.hbm, 42, rfl⟩
abbrev main_while0b_v106 : Ref sig .tc := ⟨.hbm, 43, rfl⟩
abbrev main_while0b_v107 : Ref sig .tc := ⟨.hbm, 44, rfl⟩
abbrev main_while0b_cst_25 : Ref sig .tc := ⟨.hbm, 45, rfl⟩
abbrev main_while0b_call2_v0 : Ref sig .tc := ⟨.hbm, 46, rfl⟩
abbrev main_while0b_call2_v1 : Ref sig .tc := ⟨.hbm, 47, rfl⟩
abbrev main_while0b_v108 : Ref sig .tc := ⟨.hbm, 48, rfl⟩
abbrev main_while0b_v109 : Ref sig .tc := ⟨.hbm, 49, rfl⟩
abbrev main_while0b_v110 : Ref sig .tc := ⟨.hbm, 50, rfl⟩
abbrev main_while0b_v111 : Ref sig .tc := ⟨.hbm, 51, rfl⟩
abbrev main_while0b_cst_26 : Ref sig .tc := ⟨.hbm, 52, rfl⟩
abbrev main_while0b_v112 : Ref sig .tc := ⟨.hbm, 53, rfl⟩
abbrev main_while0b_v113 : Ref sig .tc := ⟨.hbm, 54, rfl⟩
abbrev main_while0b_v114 : Ref sig .tc := ⟨.hbm, 55, rfl⟩
abbrev main_while0b_v115 : Ref sig .tc := ⟨.hbm, 56, rfl⟩
abbrev main_while0b_v116 : Ref sig .tc := ⟨.hbm, 57, rfl⟩
abbrev main_while0b_call3_v0 : Ref sig .tc := ⟨.hbm, 58, rfl⟩
abbrev main_while0b_v117 : Ref sig .tc := ⟨.hbm, 59, rfl⟩
abbrev main_while0b_c_27 : Ref sig .tc := ⟨.hbm, 60, rfl⟩
abbrev main_while0b_v118 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_cst : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_cst_0 : Ref sig .tc := ⟨.hbm, 69, rfl⟩
abbrev main_v16 : Ref sig .tc := ⟨.hbm, 70, rfl⟩
abbrev main_v17 : Ref sig .tc := ⟨.hbm, 71, rfl⟩
abbrev main_cst_1 : Ref sig .tc := ⟨.hbm, 72, rfl⟩
abbrev main_call4_v0 : Ref sig .tc := ⟨.hbm, 73, rfl⟩
abbrev main_call4_v1 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_2 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_c_3 : Ref sig .tc := ⟨.hbm, 86, rfl⟩
abbrev main_v28 : Ref sig .tc := ⟨.hbm, 87, rfl⟩
abbrev main_v29 : Ref sig .tc := ⟨.hbm, 88, rfl⟩
abbrev main_c_4 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_c_5 : Ref sig .tc := ⟨.hbm, 98, rfl⟩
abbrev main_v38 : Ref sig .tc := ⟨.hbm, 99, rfl⟩
abbrev main_v39 : Ref sig .tc := ⟨.hbm, 100, rfl⟩
abbrev main_c_6 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_7 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_c_8 : Ref sig .tc := ⟨.hbm, 112, rfl⟩
abbrev main_v49 : Ref sig .tc := ⟨.hbm, 113, rfl⟩
abbrev main_v50 : Ref sig .tc := ⟨.hbm, 114, rfl⟩
abbrev main_c_9 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_c_10 : Ref sig .tc := ⟨.hbm, 123, rfl⟩
abbrev main_v58 : Ref sig .tc := ⟨.hbm, 124, rfl⟩
abbrev main_v59 : Ref sig .tc := ⟨.hbm, 125, rfl⟩
abbrev main_c_11 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_cst_12 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_c_13 : Ref sig .tc := ⟨.hbm, 139, rfl⟩
abbrev main_v71 : Ref sig .tc := ⟨.hbm, 140, rfl⟩
abbrev main_c_14 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_c_15 : Ref sig .tc := ⟨.hbm, 145, rfl⟩
abbrev main_v75 : Ref sig .tc := ⟨.hbm, 146, rfl⟩
abbrev main_v76 : Ref sig .tc := ⟨.hbm, 147, rfl⟩
abbrev main_c_16 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_c_17 : Ref sig .tc := ⟨.hbm, 155, rfl⟩
abbrev main_v83 : Ref sig .tc := ⟨.hbm, 156, rfl⟩
abbrev main_v84 : Ref sig .tc := ⟨.hbm, 157, rfl⟩
abbrev main_c_18 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩

abbrev nD : Nat := 1
abbrev τ : Topo := Topo.v7x

variable {F : FTy → Type} [FloatOps F]

abbrev main_while0_count : Scf.Loop 32 := ⟨0#32, 8191#32, 1#32⟩
-- ==== Proof.Blocks.lean ====
/- What each grid point of the kernel reads: the blocks of the operands, as entries of the arguments. -/
module
public import proofs.«01_k».proof.Proof.Gen.KernelIdeal.Value
public import Idealize.ShloMosaic.Lib.ValueIdxCore
public import Idealize.ShloMosaic.Lib.ValueLayout
public import Idealize.ShloMosaic.Lib.Claim
public import Idealize.ShloMosaic.Lib.Pipeline.ValueKit
@[expose] public section
noncomputable section
namespace Cert.Crf
open Idealize.SL.Sem Idealize.ShloMosaic Idealize.ShloMosaic.TcCoe Cert.KernelIdeal Cert.KernelIdeal.Gen

/-- The first grid coordinate of point `t`: the half of the batch. -/
theorem half_val (t : Fin cfg0.N) : (grid0.coords t 0).val = t.val / 16 := by
  have ht : t.val < 32 := Nat.lt_of_lt_of_eq t.isLt N_0
  have e0 : (grid0.coords t 0).val = t.val / 16 % 2 := Pipeline.Grid.coords_val t 0 (by decide) rfl
  omega

/-- The second grid coordinate of point `t`: the chunk of the sequence. -/
theorem chunk_val (t : Fin cfg0.N) : (grid0.coords t 1).val = t.val % 16 := by
  have e1 : (grid0.coords t 1).val = t.val / 1 % 16 := Pipeline.Grid.coords_val t 1 (by decide) rfl
  omega

variable (m : (ℓ : Loc nD τ sig) → Buf (Elt Ideal) ℓ) (c : Dev nD)

/-- The block indices of the five operands at each grid point. -/
theorem block_index : ∀ t : Fin cfg0.N,
    win0_0.index t = ![t.val % 16, t.val / 16, 0] ∧ win0_1.index t = ![t.val / 16, t.val % 16, 0]
    ∧ win0_2.index t = ![0, 0] ∧ win0_3.index t = ![0, 0] ∧ win0_4.index t = ![0, 0] :=
  (by decide +kernel : ∀ t : Fin grid0.N, _)

/-- The emissions block: rows of the point's half, positions of its chunk. -/
theorem iblk0_apply (t : Fin cfg0.N) (l : Fin 512) (b : Fin 32) (k : Fin 48) (gb : Fin 64) (gl : Fin 8192)
    (hb : gb.val = 32 * (t.val / 16) + b.val) (hl : gl.val = 512 * (t.val % 16) + l.val) :
    iblk m c 0 t (ValueIdx.ix3 l b k) = m ((c : Thread nD τ).loc main_arg0) (ValueIdx.ix3 gb gl k) := by
  obtain ⟨e0, e1, e2, e3, e4⟩ := block_index t
  blk_simp [iblk, e0]
  entry_read
  have e : ((View.whole main_v0).slice (win0_0.rect t)).emb (ValueIdx.ix3 l b k) = (ValueIdx.ix3 gl gb k : S8192x64x48.Idx) := by
    blk_ext [e0]
    · show t.val % 16 * 512 + l.val = gl.val; omega
    · show t.val / 16 * 32 + b.val = gb.val; omega
  rw [e]
  exact transpose_apply _ _ _ _ _ (by intro a; fin_cases a <;> rfl)

/-- The tags block: rows of the point's half, positions of its chunk. -/
theorem iblk1_apply (t : Fin cfg0.N) (l : Fin 512) (b : Fin 32) (gb : Fin 64) (gl : Fin 8192)
    (hb : gb.val = 32 * (t.val / 16) + b.val) (hl : gl.val = 512 * (t.val % 16) + l.val) :
    iblk m c 1 t (ValueIdx.ix3 0 l b) = m ((c : Thread nD τ).loc main_arg1) (ValueIdx.ix2 gb gl) := by
  obtain ⟨e0, e1, e2, e3, e4⟩ := block_index t
  blk_simp [iblk, e1]
  entry_read
  have ht : t.val < 32 := Nat.lt_of_lt_of_eq t.isLt N_0
  have hh : t.val / 16 < 2 := by omega
  have e : ((View.whole main_v2).slice (win0_1.rect t)).emb (ValueIdx.ix3 0 l b) = (ValueIdx.ix3 ⟨t.val / 16, hh⟩ gl b : S2x8192x32.Idx) := by
    blk_ext [e1]
    show t.val % 16 * 512 + l.val = gl.val; omega
  rw [e]
  refine (transpose_apply _ _ _ _ (ValueIdx.ix3 ⟨t.val / 16, hh⟩ b gl) (by intro a; fin_cases a <;> rfl)).trans ?_
  show shapeCast S2x32x8192 _ _ _ = _
  refine shapeCast_apply _ _ _ (ValueIdx.ix2 gb gl) ?_
  rw [Shape.rowMajor_val_two, Shape.rowMajor_val_three]
  show gb.val * 8192 + gl.val = (t.val / 16 * 32 + b.val) * 8192 + gl.val
  omega

/-- The transitions, whole at every point. -/
theorem iblk2_apply (t : Fin cfg0.N) (k j : Fin 48) :
    iblk m c 2 t (ValueIdx.ix2 k j) = m ((c : Thread nD τ).loc main_arg3) (ValueIdx.ix2 k j) := by
  obtain ⟨e0, e1, e2, e3, e4⟩ := block_index t
  blk_ext [iblk, V, e2]

/-- The start scores, whole at every point. -/
theorem iblk3_apply (t : Fin cfg0.N) (k : Fin 48) :
    iblk m c 3 t (ValueIdx.ix2 0 k) = m ((c : Thread nD τ).loc main_arg4) (ValueIdx.ix1 k) := by
  obtain ⟨e0, e1, e2, e3, e4⟩ := block_index t
  blk_simp [iblk, e3]
  entry_read
  have e : ((View.whole main_v3).slice (win0_3.rect t)).emb (ValueIdx.ix2 0 k) = (ValueIdx.ix2 0 k : S1x48.Idx) := by blk_ext [e3]
  rw [e]
  show shapeCast S1x48 _ _ _ = _
  refine shapeCast_apply _ _ _ (ValueIdx.ix1 k) ?_
  rw [Shape.rowMajor_val_one, Shape.rowMajor_val_two]
  show k.val = 0 * 48 + k.val
  omega

/-- The end scores, whole at every point. -/
theorem iblk4_apply (t : Fin cfg0.N) (k : Fin 48) :
    iblk m c 4 t (ValueIdx.ix2 0 k) = m ((c : Thread nD τ).loc main_arg5) (ValueIdx.ix1 k) := by
  obtain ⟨e0, e1, e2, e3, e4⟩ := block_index t
  blk_simp [iblk, e4]
  entry_read
  have e : ((View.whole main_v4).slice (win0_4.rect t)).emb (ValueIdx.ix2 0 k) = (ValueIdx.ix2 0 k : S1x48.Idx) := by blk_ext [e4]
  rw [e]
  show shapeCast S1x48 _ _ _ = _
  refine shapeCast_apply _ _ _ (ValueIdx.ix1 k) ?_
  rw [Shape.rowMajor_val_one, Shape.rowMajor_val_two]
  show k.val = 0 * 48 + k.val
  omega

end Cert.Crf
-- ==== Proof.Lse.lean ====
/- The log-sum-exp of the reference over 48 extended reals, and the same value from weights: a common real exponent and
   positive weights give it as the exponent plus the logarithm of a weighted sum of exponentials. -/
module
public import Idealize.ShloMosaic.PureOps.Ideal
public import Idealize.ShloMosaic.Lib.IdealHost
public import Mathlib.Analysis.SpecialFunctions.Log.Basic
public import Mathlib.Data.EReal.Operations
@[expose] public section
noncomputable section
namespace Cert.Crf
open Idealize.ShloMosaic

/-- A finite value is kept, an infinite one replaced by zero. -/
def guard (m : EReal) : EReal := if max m (-m) < ⊤ then m else 0

/-- The largest of 48 extended reals. -/
def top48 (x : Fin 48 → EReal) : EReal := Finset.univ.fold max ⊥ x

/-- The reference's log-sum-exp: the largest value is taken out first if it is finite. -/
def lse (x : Fin 48 → EReal) : EReal := Ideal.log (∑ t, Ideal.exp (x t - guard (top48 x))) + guard (top48 x)

/-- A finite sum of reals, taken among the extended reals. -/
theorem coe_sum {ι : Type} (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-- The extended exponential of a real. -/
theorem exp_coe (r : ℝ) : Ideal.exp (r : EReal) = (Real.exp r : EReal) := rfl
/-- The extended logarithm of a positive real. -/
theorem log_coe {r : ℝ} (h : 0 < r) : Ideal.log (r : EReal) = (Real.log r : EReal) := if_neg (not_le.mpr h)
/-- The extended exponential is never negative. -/
theorem exp_nonneg (x : EReal) : 0 ≤ Ideal.exp x := by
  induction x using EReal.rec with
  | bot => exact le_refl _
  | top => exact le_top
  | coe r => rw [exp_coe]; exact EReal.coe_nonneg.mpr (Real.exp_pos r).le
/-- Below plus infinity the extended exponential is a nonnegative real. -/
theorem exp_real {x : EReal} (h : x ≠ ⊤) : ∃ w : ℝ, 0 ≤ w ∧ Ideal.exp x = (w : EReal) := by
  induction x using EReal.rec with
  | bot => exact ⟨0, le_refl _, rfl⟩
  | top => exact absurd rfl h
  | coe r => exact ⟨_, (Real.exp_pos r).le, exp_coe r⟩

/-- A sum of nonnegative extended reals one of which is infinite is infinite. -/
theorem sum_top {f : Fin 48 → EReal} (h0 : ∀ t, 0 ≤ f t) (t : Fin 48) (ht : f t = ⊤) : ∑ t, f t = ⊤ := by
  rw [← Finset.add_sum_erase _ _ (Finset.mem_univ t), ht]
  refine EReal.top_add_of_ne_bot (ne_of_gt (lt_of_lt_of_le EReal.bot_lt_zero (Finset.sum_nonneg fun i _ => h0 i)))

/-- Every value is at most the largest. -/
theorem le_top48 (x : Fin 48 → EReal) (t : Fin 48) : x t ≤ top48 x :=
  Finset.le_fold_max (x t) |>.mpr (Or.inr ⟨t, Finset.mem_univ t, le_refl _⟩)

/-- The largest of values below plus infinity is below plus infinity. -/
theorem top48_lt (x : Fin 48 → EReal) (h : ∀ t, x t ≠ ⊤) : top48 x < ⊤ :=
  Finset.fold_max_lt ⊤ |>.mpr ⟨bot_lt_top, fun t _ => lt_top_iff_ne_top.mpr (h t)⟩

/-- What is taken out is a real number. -/
theorem guard_real (m : EReal) : ∃ r : ℝ, guard m = (r : EReal) := by
  unfold guard
  induction m using EReal.rec with
  | bot => exact ⟨0, by simp⟩
  | top => exact ⟨0, by simp⟩
  | coe r =>
    refine ⟨r, if_pos ?_⟩
    rw [← EReal.coe_neg]
    exact max_lt (EReal.coe_lt_top _) (EReal.coe_lt_top _)

/-- The log-sum-exp of `M + log (u t) + c t` is `M` plus the logarithm of the sum of the `u t * exp (c t)`. -/
theorem lse_weights (M : ℝ) (u : Fin 48 → ℝ) (hu : ∀ t, 0 < u t) (c x : Fin 48 → EReal)
    (hx : ∀ t, x t = ((M + Real.log (u t) : ℝ) : EReal) + c t) :
    lse x = (M : EReal) + Ideal.log (∑ t, (u t : EReal) * Ideal.exp (c t)) := by
  by_cases hc : ∃ t, c t = ⊤
  · obtain ⟨t, ht⟩ := hc
    have hxt : x t = ⊤ := by rw [hx, ht]; exact EReal.coe_add_top _
    have hm : top48 x = ⊤ := top_le_iff.mp (hxt ▸ le_top48 x t)
    have hg : guard (top48 x) = 0 := by rw [hm]; simp [guard]
    unfold lse
    rw [hg, sum_top (fun i => exp_nonneg _) t (by rw [hxt]; simp),
      sum_top (f := fun t => (u t : EReal) * Ideal.exp (c t)) (fun i => EReal.mul_nonneg (EReal.coe_nonneg.mpr (hu i).le) (exp_nonneg _)) t
        (by show (u t : EReal) * Ideal.exp (c t) = ⊤; rw [ht]; exact EReal.coe_mul_top_of_pos (hu t))]
    show (⊤ : EReal) + 0 = (M : EReal) + ⊤
    rw [add_zero, EReal.coe_add_top]
  · have hc' : ∀ t, c t ≠ ⊤ := fun t h => hc ⟨t, h⟩
    obtain ⟨g, hg⟩ := guard_real (top48 x)
    choose w hw0 hw using fun t => exp_real (hc' t)
    have he : ∀ t, Ideal.exp (x t - (g : EReal)) = ((Real.exp (M - g) * (u t * w t) : ℝ) : EReal) := by
      intro t
      rw [hx]
      have h1 := hw t
      have h2 := hc' t
      generalize c t = y at h1 h2
      induction y using EReal.rec with
      | bot =>
        have : w t = 0 := by rw [← EReal.coe_eq_zero, ← h1]; rfl
        rw [this, EReal.add_bot]
        simp only [mul_zero, EReal.coe_zero]
        rfl
      | top => exact absurd rfl h2
      | coe r =>
        have hr : w t = Real.exp r := by rw [← EReal.coe_eq_coe_iff, ← h1]; rfl
        rw [hr, ← EReal.coe_add, ← EReal.coe_sub, exp_coe]
        congr 1
        rw [show M + Real.log (u t) + r - g = (M - g) + (Real.log (u t) + r) by ring, Real.exp_add, Real.exp_add, Real.exp_log (hu t)]
    have hS : ∑ t, (u t : EReal) * Ideal.exp (c t) = ((∑ t, u t * w t : ℝ) : EReal) := by
      rw [coe_sum]; exact Finset.sum_congr rfl fun t _ => by rw [hw, EReal.coe_mul]
    have hS' : ∑ t, Ideal.exp (x t - guard (top48 x)) = ((Real.exp (M - g) * ∑ t, u t * w t : ℝ) : EReal) := by
      rw [hg, Finset.mul_sum, coe_sum]; exact Finset.sum_congr rfl fun t _ => he t
    unfold lse
    rw [hS', hS, hg]
    have hn : 0 ≤ ∑ t, u t * w t := Finset.sum_nonneg fun t _ => mul_nonneg (hu t).le (hw0 t)
    rcases hn.eq_or_lt with h | h
    · rw [← h, mul_zero]
      have : Ideal.log ((0 : ℝ) : EReal) = ⊥ := if_pos (le_refl _)
      rw [this, EReal.bot_add, EReal.add_bot]
    · rw [log_coe h, log_coe (mul_pos (Real.exp_pos _) h), Real.log_mul (Real.exp_pos _).ne' h.ne', Real.log_exp, ← EReal.coe_add, ← EReal.coe_add]
      congr 1; ring

/-- The same for real summands: the value is a real. -/
theorem lse_weights_real (M : ℝ) (u c : Fin 48 → ℝ) (hu : ∀ t, 0 < u t) (x : Fin 48 → EReal)
    (hx : ∀ t, x t = ((M + Real.log (u t) + c t : ℝ) : EReal)) :
    lse x = ((M + Real.log (∑ t, u t * Real.exp (c t)) : ℝ) : EReal) := by
  rw [lse_weights M u hu (fun t => (c t : EReal)) x (fun t => by rw [hx, EReal.coe_add _ (c t)])]
  have : ∑ t, (u t : EReal) * Ideal.exp (c t : EReal) = ((∑ t, u t * Real.exp (c t) : ℝ) : EReal) := by
    rw [coe_sum]; exact Finset.sum_congr rfl fun t _ => by rw [exp_coe, EReal.coe_mul]
  rw [this, log_coe (Finset.sum_pos (fun t _ => mul_pos (hu t) (Real.exp_pos _)) ⟨0, Finset.mem_univ _⟩), ← EReal.coe_add]

end Cert.Crf
-- ==== Proof.Alpha.lean ====
/- The forward variables of one batch row over the reals, and the weights that stand for them: positive weights and one
   common exponent per row, whose sum with a weight's logarithm is the forward variable. -/
module
public import proofs.«01_k».proof.Proof.Lse
public import Idealize.ShloMosaic.PureOps.Ideal.Laws
@[expose] public section
noncomputable section
namespace Cert.Crf
open Idealize.ShloMosaic

variable (E : ℕ → Fin 48 → ℝ) (A : Fin 48 → Fin 48 → ℝ) (S : Fin 48 → ℝ)

/-- The forward variables after position `n`. -/
def alpha : ℕ → Fin 48 → ℝ
  | 0 => fun t => S t + E 0 t
  | n + 1 => fun t => Real.log (∑ k, Real.exp (alpha n k) * Real.exp (A k t + E (n + 1) t))

/-- A trip's log-sum-exp is the next forward variable. -/
theorem lse_alpha (n : ℕ) (t : Fin 48) :
    lse (fun k => ((alpha E A S n k : ℝ) : EReal) + ((A k t : ℝ) : EReal) + ((E (n + 1) t : ℝ) : EReal)) = ((alpha E A S (n + 1) t : ℝ) : EReal) := by
  rw [lse_weights_real 0 (fun k => Real.exp (alpha E A S n k)) (fun k => A k t + E (n + 1) t) (fun k => Real.exp_pos _) _ (fun k => by
    rw [Real.log_exp, zero_add, EReal.coe_add, EReal.coe_add, add_assoc])]
  rw [zero_add]
  rfl

/-- Weights `u`, the reciprocal `r` of the first, its logarithm `lr` and the exponent `M` stand for the forward variables after position `n`. -/
def Stands (n : ℕ) (u : Fin 48 → EReal) (r lr M : EReal) : Prop :=
  ∃ (w : Fin 48 → ℝ) (e : ℝ), (∀ t, 0 < w t) ∧ (∀ t, u t = ((w t : ℝ) : EReal)) ∧ r = ((1 / w 0 : ℝ) : EReal)
    ∧ lr = ((Real.log (1 / w 0) : ℝ) : EReal) ∧ M = ((e : ℝ) : EReal) ∧ ∀ t, alpha E A S n t = e + Real.log (w t)

/-- The quotient of one by a positive real. -/
theorem one_div_coe {x : ℝ} (h : 0 < x) : Ideal.div 1 (x : EReal) = ((1 / x : ℝ) : EReal) := by
  have := Ideal.div_coe (ne_of_gt h) 1
  simpa using this

/-- The weights of the first position. -/
theorem stands_first (u : Fin 48 → EReal) (hu : ∀ t, u t = Ideal.exp ((S t : ℝ) : EReal) * Ideal.exp ((E 0 t : ℝ) : EReal)) :
    Stands E A S 0 u (Ideal.div 1 (u 0)) (Ideal.log (Ideal.div 1 (u 0))) 0 := by
  have hw : ∀ t, u t = ((Real.exp (S t) * Real.exp (E 0 t) : ℝ) : EReal) := fun t => by rw [hu, exp_coe, exp_coe, EReal.coe_mul]
  have hp : ∀ t, 0 < Real.exp (S t) * Real.exp (E 0 t) := fun t => mul_pos (Real.exp_pos _) (Real.exp_pos _)
  refine ⟨fun t => Real.exp (S t) * Real.exp (E 0 t), 0, hp, hw, ?_, ?_, EReal.coe_zero.symm, fun t => ?_⟩
  · rw [hw, one_div_coe (hp 0)]
  · rw [hw, one_div_coe (hp 0), log_coe (one_div_pos.mpr (hp 0))]
  · show S t + E 0 t = 0 + Real.log (Real.exp (S t) * Real.exp (E 0 t))
    rw [← Real.exp_add, Real.log_exp, zero_add]

/-- The weights of the next position. -/
theorem stands_next (n : ℕ) (u u' : Fin 48 → EReal) (r lr M : EReal) (h : Stands E A S n u r lr M)
    (hu : ∀ t, u' t = (∑ k, u k * Ideal.exp ((A k t : ℝ) : EReal)) * (Ideal.exp ((E (n + 1) t : ℝ) : EReal) * r)) :
    Stands E A S (n + 1) u' (Ideal.div 1 (u' 0)) (Ideal.log (Ideal.div 1 (u' 0))) (M - lr) := by
  obtain ⟨w, e, hp, hw, hr, hlr, hM, ha⟩ := h
  have hsum : ∀ t, 0 < ∑ k, w k * Real.exp (A k t) := fun t =>
    Finset.sum_pos (fun k _ => mul_pos (hp k) (Real.exp_pos _)) ⟨0, Finset.mem_univ _⟩
  have hp' : ∀ t, 0 < (∑ k, w k * Real.exp (A k t)) * (Real.exp (E (n + 1) t) * (1 / w 0)) := fun t =>
    mul_pos (hsum t) (mul_pos (Real.exp_pos _) (one_div_pos.mpr (hp 0)))
  have hw' : ∀ t, u' t = (((∑ k, w k * Real.exp (A k t)) * (Real.exp (E (n + 1) t) * (1 / w 0)) : ℝ) : EReal) := fun t => by
    have hs : (∑ k, u k * Ideal.exp ((A k t : ℝ) : EReal)) = ((∑ k, w k * Real.exp (A k t) : ℝ) : EReal) := by
      rw [coe_sum]; exact Finset.sum_congr rfl fun k _ => by rw [hw, exp_coe, EReal.coe_mul]
    rw [hu, hs, hr, exp_coe, EReal.coe_mul, EReal.coe_mul]
  refine ⟨fun t => (∑ k, w k * Real.exp (A k t)) * (Real.exp (E (n + 1) t) * (1 / w 0)), e - Real.log (1 / w 0), hp', hw', ?_, ?_, ?_, fun t => ?_⟩
  · rw [hw', one_div_coe (hp' 0)]
  · rw [hw', one_div_coe (hp' 0), log_coe (one_div_pos.mpr (hp' 0))]
  · rw [hM, hlr, EReal.coe_sub]
  · have h1 : ∑ k, Real.exp (alpha E A S n k) * Real.exp (A k t + E (n + 1) t) = (Real.exp e * Real.exp (E (n + 1) t)) * ∑ k, w k * Real.exp (A k t) := by
      rw [Finset.mul_sum]
      refine Finset.sum_congr rfl fun k _ => ?_
      rw [ha, Real.exp_add, Real.exp_add, Real.exp_log (hp k)]
      ring
    show Real.log (∑ k, Real.exp (alpha E A S n k) * Real.exp (A k t + E (n + 1) t)) = _
    rw [h1, Real.log_mul (ne_of_gt (mul_pos (Real.exp_pos _) (Real.exp_pos _))) (ne_of_gt (hsum t)), Real.log_mul (ne_of_gt (Real.exp_pos _)) (ne_of_gt (Real.exp_pos _)),
      Real.log_exp, Real.log_exp, Real.log_mul (ne_of_gt (hsum t)) (ne_of_gt (mul_pos (Real.exp_pos _) (one_div_pos.mpr (hp 0)))),
      Real.log_mul (ne_of_gt (Real.exp_pos _)) (ne_of_gt (one_div_pos.mpr (hp 0))), Real.log_exp]
    ring

/-- The partition from the weights that stand for the last forward variables. -/
theorem stands_lse (n : ℕ) (u : Fin 48 → EReal) (r lr M : EReal) (h : Stands E A S n u r lr M) (c : Fin 48 → EReal) :
    M + Ideal.log (∑ t, u t * Ideal.exp (c t)) = lse fun t => ((alpha E A S n t : ℝ) : EReal) + c t := by
  obtain ⟨w, e, hp, hw, -, -, hM, ha⟩ := h
  rw [lse_weights e w hp c _ (fun t => by rw [ha]), hM]
  simp only [hw]

end Cert.Crf
-- ==== Proof.RefStep.lean ====
/- One trip of the reference's loop at an index: the forward variable of tag `t` becomes the log-sum-exp over the tags `k`
   before it of the old variable plus the transition plus the emission, where the mask is set. -/
module
public import proofs.«01_k».proof.Proof.Lse
public import proofs.«01_k».proof.Proof.Gen.ReferenceIdeal.Step
public import Idealize.ShloMosaic.Lib.ValueIdxCore
public import Idealize.ShloMosaic.Lib.WordCmp
public import Idealize.ShloMosaic.Lib.Pipeline.Value
public import Idealize.ShloMosaic.PureOps.Ideal.Laws
@[expose] public section
noncomputable section
namespace Cert.Crf
open Idealize.ShloMosaic Idealize.ShloMosaic.ValueIdx Cert.ReferenceIdeal Cert.ReferenceIdeal.Gen Cert.ReferenceIdeal.Step

/-- The single-precision pattern of plus infinity. -/
theorem bits_top : FloatOps.ofBits (F := Ideal) .f32 0x7F800000#32 = (⊤ : EReal) := by
  show Ideal.ofBits .f32 0x7F800000#32 = ⊤
  simp [Ideal.ofBits, Ideal.ieee, -EReal.coe_mul]
/-- The single-precision pattern of minus infinity. -/
theorem bits_bot : FloatOps.ofBits (F := Ideal) .f32 0xFF800000#32 = (⊥ : EReal) := by
  show Ideal.ofBits .f32 0xFF800000#32 = ⊥
  simp [Ideal.ofBits, Ideal.ieee, -EReal.coe_mul]
/-- The single-precision pattern of zero. -/
theorem bits_zero : FloatOps.ofBits (F := Ideal) .f32 0x00000000#32 = (0 : EReal) := by
  show Ideal.ofBits .f32 0x00000000#32 = 0
  simp [Ideal.ofBits, Ideal.ieee, -EReal.coe_mul]
/-- The single-precision pattern of one. -/
theorem bits_one : FloatOps.ofBits (F := Ideal) .f32 0x3F800000#32 = (1 : EReal) := by
  show Ideal.ofBits .f32 0x3F800000#32 = 1
  simp [Ideal.ofBits, Ideal.ieee, -EReal.coe_mul]; norm_num

/-- The printed test and choice are the guard. -/
theorem select_guard (x : EReal) :
    Scalar.select (FloatOps.cmpf (F := Ideal) (φ := .f32) .olt (FloatOps.hostAbsf (F := Ideal) (φ := .f32) x) (⊤ : EReal)) x (0 : EReal) = guard x := by
  show Scalar.select (BitVec.ofBool (decide (max x (-x) < ⊤))) x 0 = guard x
  unfold guard Scalar.select
  by_cases h : max x (-x) < ⊤ <;> simp [h]

variable (j : ℕ) (hj : j < 8191) (s : State Ideal)

/-- The emissions row a trip reads. -/
theorem b3_apply (b : Fin 64) (t : Fin 48) : b3 j s (ix2 b t) = s.main_v9_0 (ix3 ⟨j, hj⟩ b t) := by
  unfold b3
  rw [shapeCast_apply _ _ _ (ix3 (0 : Fin 1) b t) (by
    rw [Shape.rowMajor_val_three, Shape.rowMajor_val_two]; show (0 * 64 + b.val) * 48 + t.val = b.val * 48 + t.val; omega)]
  unfold b2
  refine (congrFun (WordCmp.dynamicSlice_eq_extract (s := S8191x64x48) S1x64x48 s.main_v9_0 _ _ ![j, 0, 0] ⟨rfl, by intro a; fin_cases a <;> simp <;> omega⟩ (by
    intro a
    fin_cases a
    · show (BitVec.ofNat 32 j).toInt = (j : ℤ)
      rw [BitVec.toInt_eq_toNat_of_lt] <;> rw [BitVec.toNat_ofNat, Nat.mod_eq_of_lt (by omega)]
      omega
    · rfl
    · rfl)) _).trans ?_
  exact extractStridedSlice_apply _ _ _ _ _ (by intro a; fin_cases a <;> simp)

/-- The mask row a trip reads. -/
theorem b6_apply (b : Fin 64) : b6 j s (ix1 b) = s.main_v9_1 (ix2 ⟨j, hj⟩ b) := by
  unfold b6
  rw [shapeCast_apply _ _ _ (ix2 (0 : Fin 1) b) (by
    rw [Shape.rowMajor_val_two, Shape.rowMajor_val_one]; show 0 * 64 + b.val = b.val; omega)]
  unfold b5
  refine (congrFun (WordCmp.dynamicSlice_eq_extract (s := S8191x64) S1x64 s.main_v9_1 _ _ ![j, 0] ⟨rfl, by intro a; fin_cases a <;> simp <;> omega⟩ (by
    intro a
    fin_cases a
    · show (BitVec.ofNat 32 j).toInt = (j : ℤ)
      rw [BitVec.toInt_eq_toNat_of_lt] <;> rw [BitVec.toNat_ofNat, Nat.mod_eq_of_lt (by omega)]
      omega
    · rfl)) _).trans ?_
  exact extractStridedSlice_apply _ _ _ _ _ (by intro a; fin_cases a <;> simp)

/-- The summand of the log-sum-exp. -/
theorem b14_apply (b : Fin 64) (k t : Fin 48) :
    b14 j s (ix3 b k t) = (s.main_v9_4 (ix2 b k) + s.main_v9_2 (ix2 k t) + s.main_v9_0 (ix3 ⟨j, hj⟩ b t) : EReal) := by
  show (b9 j s (ix3 b k t) + b10 j s (ix3 b k t) + b13 j s (ix3 b k t) : EReal) = _
  have h9 : b9 j s (ix3 b k t) = s.main_v9_4 (ix2 b k) := by
    unfold b9
    rw [broadcastInDim_apply _ _ _ _ (ix3 b k (0 : Fin 1)) (by intro a; fin_cases a <;> rfl)]
    unfold b7
    exact broadcastInDim_apply _ _ _ _ _ (by intro a; fin_cases a <;> rfl)
  have h10 : b10 j s (ix3 b k t) = s.main_v9_2 (ix2 k t) := by
    unfold b10
    rw [broadcastInDim_apply _ _ _ _ (ix3 (0 : Fin 1) k t) (by intro a; fin_cases a <;> rfl)]
    unfold b8
    exact broadcastInDim_apply _ _ _ _ _ (by intro a; fin_cases a <;> rfl)
  have h13 : b13 j s (ix3 b k t) = s.main_v9_0 (ix3 ⟨j, hj⟩ b t) := by
    unfold b13
    rw [broadcastInDim_apply _ _ _ _ (ix3 b (0 : Fin 1) t) (by intro a; fin_cases a <;> rfl)]
    unfold b12
    rw [broadcastInDim_apply _ _ _ _ (ix2 b t) (by intro a; fin_cases a <;> rfl)]
    exact b3_apply j hj s b t
  rw [h9, h10, h13]

/-- The middle axis of a `64 x 48 x 48` array is reduced. -/
theorem red3 : S64x48x48.Reduces [1] S64x48 := by decide

/-- Where a summand of a reduced entry stands. -/
theorem lift3 (b : Fin 64) (t k : Fin 48) : red3.lift (ix2 b t) k = ix3 b k t := by
  funext a; apply Fin.ext; fin_cases a <;> rfl

/-- The largest summand. -/
theorem b16_apply (b : Fin 64) (t : Fin 48) : b16 j s (ix2 b t) = top48 fun k => b14 j s (ix3 b k t) := by
  unfold b16
  have e := Host.reduce_eq_fold_single (α := EReal) (s := S64x48x48) (t := S64x48) (u := S_) (a := (1 : Fin 3)) (max : EReal → EReal → EReal) (b14 j s) (b15 j s)
    reducesTo_S64x48x48_S64x48_d1 red3 h_S_ (ix2 b t)
  have hl : ((b14 j s : S64x48x48.Idx → EReal) ∘ red3.lift (ix2 b t)) = fun k : Fin 48 => b14 j s (ix3 b k t) :=
    funext fun k => congrArg (b14 j s) (lift3 b t k)
  have hi : b15 j s (Shape.Idx.first h_S_) = (⊥ : EReal) := bits_bot
  rw [hl, hi] at e
  exact e

/-- What is taken out. -/
theorem b25_apply (b : Fin 64) (t : Fin 48) : b25 j s (ix3 b (0 : Fin 1) t) = guard (top48 fun k => b14 j s (ix3 b k t)) := by
  have h17 : b17 j s (ix3 b (0 : Fin 1) t) = top48 fun k => b14 j s (ix3 b k t) := by
    unfold b17
    rw [broadcastInDim_apply _ _ _ _ (ix2 b t) (by intro a; fin_cases a <;> rfl)]
    exact b16_apply j s b t
  have h20 : b20 j s (ix3 b (0 : Fin 1) t) = (⊤ : EReal) := bits_top
  have h24 : b24 j s (ix3 b (0 : Fin 1) t) = (0 : EReal) := bits_zero
  show Scalar.select (FloatOps.cmpf .olt (FloatOps.hostAbsf (b17 j s (ix3 b (0 : Fin 1) t))) (b20 j s (ix3 b (0 : Fin 1) t))) (b17 j s (ix3 b (0 : Fin 1) t)) (b24 j s (ix3 b (0 : Fin 1) t)) = _
  rw [h17, h20, h24]
  exact select_guard _

/-- A trip at an index. -/
theorem b36_apply (b : Fin 64) (t : Fin 48) :
    b36 j s (ix2 b t) = Scalar.select (s.main_v9_1 (ix2 ⟨j, hj⟩ b))
      (lse fun k => (s.main_v9_4 (ix2 b k) + s.main_v9_2 (ix2 k t) + s.main_v9_0 (ix3 ⟨j, hj⟩ b t) : EReal)) (s.main_v9_4 (ix2 b t)) := by
  have h35 : b35 j s (ix2 b t) = s.main_v9_1 (ix2 ⟨j, hj⟩ b) := by
    unfold b35
    rw [broadcastInDim_apply _ _ _ _ (ix2 b (0 : Fin 1)) (by intro a; fin_cases a <;> rfl)]
    unfold b34
    rw [broadcastInDim_apply _ _ _ _ (ix1 b) (by intro a; fin_cases a <;> rfl)]
    exact b6_apply j hj s b
  have h32 : b32 j s (ix2 b t) = guard (top48 fun k => b14 j s (ix3 b k t)) := by
    unfold b32
    rw [shapeCast_apply _ _ _ (ix3 b (0 : Fin 1) t) (by
      rw [Shape.rowMajor_val_three, Shape.rowMajor_val_two]; show (b.val * 1 + 0) * 48 + t.val = b.val * 48 + t.val; omega)]
    exact b25_apply j s b t
  have h26 : ∀ k, b26 j s (ix3 b k t) = guard (top48 fun k => b14 j s (ix3 b k t)) := fun k => by
    unfold b26
    rw [broadcastInDim_apply _ _ _ _ (ix3 b (0 : Fin 1) t) (by intro a; fin_cases a <;> rfl)]
    exact b25_apply j s b t
  have h30 : b30 j s (ix2 b t) = ∑ k : Fin 48, Ideal.exp (b14 j s (ix3 b k t) - guard (top48 fun k => b14 j s (ix3 b k t)) : EReal) := by
    show Ideal.hostReduceAdd (axes := [1]) reducesTo_S64x48x48_S64x48_d1 (b28 j s) (FloatOps.ofBits (F := Ideal) .f32 0x00000000#32) (ix2 b t) = _
    rw [Ideal.hostReduceAdd_single _ red3, bits_zero, zero_add]
    refine Finset.sum_congr rfl fun k _ => ?_
    rw [lift3 b t k]
    exact congrArg (fun z : EReal => Ideal.exp ((b14 j s (ix3 b k t) : EReal) - z)) (h26 k)
  show Scalar.select (b35 j s (ix2 b t)) (Ideal.log (b30 j s (ix2 b t)) + b32 j s (ix2 b t) : EReal) _ = _
  rw [h35, h32, h30]
  simp only [b14_apply j hj]
  rfl

end Cert.Crf
-- ==== Proof.Point.lean ====
/- One grid point of the kernel as a function of the blocks it reads and of what the point before left: the loop over
   the block's time steps (`sweep`), and what the point leaves in the result block and in each carried buffer, for the first,
   a middle and the last block of a row group. -/
module
public import proofs.«01_k».proof.Proof.Gen.KernelIdeal.Value
@[expose] public section
noncomputable section
namespace Cert.Crf
open Idealize.ShloMosaic Idealize.ShloMosaic.TcCoe Idealize.SL.Sem Cert.KernelIdeal Cert.KernelIdeal.Gen
variable {F : FTy → Type} [FloatOps F]

/-- What the loop of one grid point carries: the scaled weights, their scale, its logarithm and the exponent taken out so far. -/
abbrev Carry (F : FTy → Type) [FloatOps F] := Vec F S32x48 .f32 × Vec F S32x1 .f32 × Vec F S32x1 .f32 × Vec F S32x1 .f32

/-- The emissions of the block's time step `k`. -/
abbrev emRow (x0 : Vec F S512x32x48 .f32) (k : Fin k0_t1_loop.trips) : Vec F S1x32x48 .f32 :=
  View.ld x0 (Rect.unit (s := S512x32x48) (k0_off1 k) S1x32x48.size (k0_off1_inb k))

/-- One trip of the loop as a function of the arrays it reads. -/
def trip (i : grid0.Coords) (x0 : Vec F S512x32x48 .f32) (x2 : Vec F S48x48 .f32) (x3 : Vec F S1x48 .f32) (k : Fin k0_t1_loop.trips) (s : Carry F) : Carry F :=
  (k0_pay12 i x2 x3 k s.1 s.2.1 (emRow x0 k),
    k0_pay14 i x2 x3 k s.1 s.2.1 (emRow x0 k),
    k0_pay15 i x2 x3 k s.1 s.2.1 (emRow x0 k),
    k0_pay13 i k s.2.2.1 s.2.2.2)

/-- What the loop carries before trip `n`. -/
def sweep (i : grid0.Coords) (x0 : Vec F S512x32x48 .f32) (x2 : Vec F S48x48 .f32) (x3 : Vec F S1x48 .f32) (init : Carry F) : ℕ → Carry F
  | 0 => init
  | n + 1 => if h : n < k0_t1_loop.trips then trip i x0 x2 x3 ⟨n, h⟩ (sweep i x0 x2 x3 init n) else sweep i x0 x2 x3 init n

/-- Whether the point is the first of its row group, as the word the body tests. -/
abbrev isFirst (i : grid0.Coords) : BitVec 1 := Scalar.cmpi .eq (BitVec.ofNat 32 (i 1).val) 0#32
/-- Whether the point is the last of its row group, as the word the body tests. -/
abbrev isLast (i : grid0.Coords) : BitVec 1 := Scalar.cmpi .eq (BitVec.ofNat 32 (i 1).val) 15#32

/-- The score accumulated after a point, from what it was before. -/
def accNext (i : grid0.Coords) (x0 : Vec F S512x32x48 .f32) (x1 : Vec F S1x512x32 .i32) (x2 : Vec F S48x48 .f32) (x3 : Vec F S1x48 .f32) (x4 : Vec F S1x48 .f32)
    (acc : Vec F S32x48 .f32) (prev : Vec F S1x32 .i32) : Vec F S32x48 .f32 :=
  k0_pay1 (k0_pay22 (isFirst i) x2 (k0_pay4 x3) x1 x0 prev) (k0_pay23 (isLast i) (k0_pay5 x4) x1) acc

section
variable (c : Dev nD) (i : grid0.Coords) (a2 : Memref sig .tc .vmem S512x32x48 .f32) (h2 : a2.IsWhole) (a3 : Memref sig .tc .vmem S1x512x32 .i32) (h3 : a3.IsWhole) (a4 : Memref sig .tc .vmem S48x48 .f32) (h4 : a4.IsWhole) (a5 : Memref sig .tc .vmem S1x48 .f32) (h5 : a5.IsWhole) (a6 : Memref sig .tc .vmem S1x48 .f32) (h6 : a6.IsWhole) (a7 : Memref sig .tc .vmem S1x1x32 .f32) (h7 : a7.IsWhole) (a8 : Memref sig .tc .vmem S32x48 .f32) (h8 : a8.IsWhole) (a9 : Memref sig .tc .vmem S32x48 .f32) (h9 : a9.IsWhole) (a10 : Memref sig .tc .vmem S1x32 .i32) (h10 : a10.IsWhole) (a11 : Memref sig .tc .vmem S32x1 .f32) (h11 : a11.IsWhole) (a12 : Memref sig .tc .vmem S32x1 .f32) (h12 : a12.IsWhole) (a13 : Memref sig .tc .vmem S32x1 .f32) (h13 : a13.IsWhole)

/-- The loop's generated state, on whole buffers, is `sweep`. -/
theorem st_eq (x0 : Vec F S512x32x48 .f32) (x2 : Vec F S48x48 .f32) (x3 : Vec F S1x48 .f32) (init : Carry F) (n : ℕ) :
    st_k0_t1 (F := F) Variants.none c none i a2 h2 a3 h3 a4 h4 a5 h5 a6 h6 a7 h7 a8 h8 a9 h9 a10 h10 a11 h11 a12 h12 a13 h13 x2 x3 (h2.unread x0) init n = sweep i x0 x2 x3 init n := by
  induction n with
  | zero => rfl
  | succ n ih =>
    rw [st_k0_t1.eq_2]
    unfold st_k0_t1Step
    rw [sweep, ih]
    split
    · unfold tripR_k0_t1 trip_k0_t1
      dsimp only
      sl_unfold_words
      simp only [View.readAt_eq_ld, h2.read_unread]
      rfl
    · rfl

variable (x0 : Vec F S512x32x48 .f32) (x1 : Vec F S1x512x32 .i32) (x2 : Vec F S48x48 .f32) (x3 : Vec F S1x48 .f32) (x4 : Vec F S1x48 .f32) (xs0 : Vec F S32x48 .f32) (xs1 : Vec F S32x48 .f32) (xs2 : Vec F S1x32 .i32) (xs3 : Vec F S32x1 .f32) (xs4 : Vec F S32x1 .f32) (xs5 : Vec F S32x1 .f32)

/-- Offsets that are all zero, over two axes. -/
theorem off2 : (![0, 0] : Fin 2 → ℕ) = fun _ => 0 := by funext a; fin_cases a <;> rfl
/-- Offsets that are all zero, over three axes. -/
theorem off3 : (![0, 0, 0] : Fin 3 → ℕ) = fun _ => 0 := by funext a; fin_cases a <;> rfl

set_option maxHeartbeats 1000000 in
/-- The weights that the first point of a row group leaves. -/
theorem sout0_A_0_eq (hc0 : cond0_0 i) (hc1 : ¬cond0_1 i) : sout0_A_0 c i a2 h2 a3 h3 a4 h4 a5 h5 a6 h6 a7 h7 a8 h8 a9 h9 a10 h10 a11 h11 a12 h12 a13 h13 hc0 hc1 x0 x1 x2 x3 x4 = k0_pay16 (sweep i x0 x2 x3 (k0_pay6, k0_pay9, k0_pay10, k0_pay11) k0_t1_loop.trips).1 := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (k0_pay6, k0_pay9, k0_pay10, k0_pay11)]

set_option maxHeartbeats 1000000 in
/-- The score that the first point of a row group leaves. -/
theorem sout0_A_1_eq (hc0 : cond0_0 i) (hc1 : ¬cond0_1 i) : sout0_A_1 c i a2 h2 a3 h3 a4 h4 a5 h5 a6 h6 a7 h7 a8 h8 a9 h9 a10 h10 a11 h11 a12 h12 a13 h13 hc0 hc1 x0 x1 x2 x3 x4 = accNext i x0 x1 x2 x3 x4 k0_pay7 k0_pay8 := by
  unfold sout0_A_1
  rw [View.read_writes_eq_canon _ _ _ (scover0_A_1 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rfl

set_option maxHeartbeats 1000000 in
/-- The last tag that the first point of a row group leaves. -/
theorem sout0_A_2_eq (hc0 : cond0_0 i) (hc1 : ¬cond0_1 i) : sout0_A_2 c i a2 h2 a3 h3 a4 h4 a5 h5 a6 h6 a7 h7 a8 h8 a9 h9 a10 h10 a11 h11 a12 h12 a13 h13 hc0 hc1 x0 x1 x2 x3 x4 = k0_pay2 (k0_pay20 x1) := by
  unfold sout0_A_2
  rw [View.read_writes_eq_canon _ _ _ (scover0_A_2 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]

set_option maxHeartbeats 1000000 in
/-- The scale that the first point of a row group leaves. -/
theorem sout0_A_3_eq (hc0 : cond0_0 i) (hc1 : ¬cond0_1 i) : sout0_A_3 c i a2 h2 a3 h3 a4 h4 a5 h5 a6 h6 a7 h7 a8 h8 a9 h9 a10 h10 a11 h11 a12 h12 a13 h13 hc0 hc1 x0 x1 x2 x3 x4 = k0_pay17 (sweep i x0 x2 x3 (k0_pay6, k0_pay9, k0_pay10, k0_pay11) k0_t1_loop.trips).2.1 := by
  unfold sout0_A_3
  rw [View.read_writes_eq_canon _ _ _ (scover0_A_3 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (k0_pay6, k0_pay9, k0_pay10, k0_pay11)]

set_option maxHeartbeats 1000000 in
/-- The scale's logarithm that the first point of a row group leaves. -/
theorem sout0_A_4_eq (hc0 : cond0_0 i) (hc1 : ¬cond0_1 i) : sout0_A_4 c i a2 h2 a3 h3 a4 h4 a5 h5 a6 h6 a7 h7 a8 h8 a9 h9 a10 h10 a11 h11 a12 h12 a13 h13 hc0 hc1 x0 x1 x2 x3 x4 = k0_pay18 (sweep i x0 x2 x3 (k0_pay6, k0_pay9, k0_pay10, k0_pay11) k0_t1_loop.trips).2.2.1 := by
  unfold sout0_A_4
  rw [View.read_writes_eq_canon _ _ _ (scover0_A_4 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (k0_pay6, k0_pay9, k0_pay10, k0_pay11)]

set_option maxHeartbeats 1000000 in
/-- The exponent that the first point of a row group leaves. -/
theorem sout0_A_5_eq (hc0 : cond0_0 i) (hc1 : ¬cond0_1 i) : sout0_A_5 c i a2 h2 a3 h3 a4 h4 a5 h5 a6 h6 a7 h7 a8 h8 a9 h9 a10 h10 a11 h11 a12 h12 a13 h13 hc0 hc1 x0 x1 x2 x3 x4 = k0_pay19 (sweep i x0 x2 x3 (k0_pay6, k0_pay9, k0_pay10, k0_pay11) k0_t1_loop.trips).2.2.2 := by
  unfold sout0_A_5
  rw [View.read_writes_eq_canon _ _ _ (scover0_A_5 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (k0_pay6, k0_pay9, k0_pay10, k0_pay11)]

set_option maxHeartbeats 1000000 in
/-- The weights that the middle point of a row group leaves. -/
theorem sout0_B_0_eq (hc0 : ¬cond0_0 i) (hc1 : ¬cond0_1 i) : sout0_B_0 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay16 (sweep i x0 x2 x3 (xs0, xs3, xs4, xs5) k0_t1_loop.trips).1 := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]

set_option maxHeartbeats 1000000 in
/-- The score that the middle point of a row group leaves. -/
theorem sout0_B_1_eq (hc0 : ¬cond0_0 i) (hc1 : ¬cond0_1 i) : sout0_B_1 c i a2 h2 a3 h3 a4 h4 a5 h5 a6 h6 a7 h7 a8 h8 a9 h9 a10 h10 a11 h11 a12 h12 a13 h13 hc0 hc1 x0 x1 x2 x3 x4 xs0 xs1 xs2 xs3 xs4 xs5 = accNext i x0 x1 x2 x3 x4 xs1 xs2 := by
  unfold sout0_B_1
  rw [View.read_writes_eq_canon _ _ _ (scover0_B_1 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rfl

set_option maxHeartbeats 1000000 in
/-- The last tag that the middle point of a row group leaves. -/
theorem sout0_B_2_eq (hc0 : ¬cond0_0 i) (hc1 : ¬cond0_1 i) : sout0_B_2 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay2 (k0_pay20 x1) := by
  unfold sout0_B_2
  rw [View.read_writes_eq_canon _ _ _ (scover0_B_2 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]

set_option maxHeartbeats 1000000 in
/-- The scale that the middle point of a row group leaves. -/
theorem sout0_B_3_eq (hc0 : ¬cond0_0 i) (hc1 : ¬cond0_1 i) : sout0_B_3 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay17 (sweep i x0 x2 x3 (xs0, xs3, xs4, xs5) k0_t1_loop.trips).2.1 := by
  unfold sout0_B_3
  rw [View.read_writes_eq_canon _ _ _ (scover0_B_3 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]

set_option maxHeartbeats 1000000 in
/-- The scale's logarithm that the middle point of a row group leaves. -/
theorem sout0_B_4_eq (hc0 : ¬cond0_0 i) (hc1 : ¬cond0_1 i) : sout0_B_4 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay18 (sweep i x0 x2 x3 (xs0, xs3, xs4, xs5) k0_t1_loop.trips).2.2.1 := by
  unfold sout0_B_4
  rw [View.read_writes_eq_canon _ _ _ (scover0_B_4 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]

set_option maxHeartbeats 1000000 in
/-- The exponent that the middle point of a row group leaves. -/
theorem sout0_B_5_eq (hc0 : ¬cond0_0 i) (hc1 : ¬cond0_1 i) : sout0_B_5 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay19 (sweep i x0 x2 x3 (xs0, xs3, xs4, xs5) k0_t1_loop.trips).2.2.2 := by
  unfold sout0_B_5
  rw [View.read_writes_eq_canon _ _ _ (scover0_B_5 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]

set_option maxHeartbeats 1000000 in
/-- The weights that the last point of a row group leaves. -/
theorem sout0_C_0_eq (hc0 : ¬cond0_0 i) (hc1 : cond0_1 i) : sout0_C_0 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay16 (sweep i x0 x2 x3 (xs0, xs3, xs4, xs5) k0_t1_loop.trips).1 := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]

set_option maxHeartbeats 1000000 in
/-- The score that the last point of a row group leaves. -/
theorem sout0_C_1_eq (hc0 : ¬cond0_0 i) (hc1 : cond0_1 i) : sout0_C_1 c i a2 h2 a3 h3 a4 h4 a5 h5 a6 h6 a7 h7 a8 h8 a9 h9 a10 h10 a11 h11 a12 h12 a13 h13 hc0 hc1 x0 x1 x2 x3 x4 xs0 xs1 xs2 xs3 xs4 xs5 = accNext i x0 x1 x2 x3 x4 xs1 xs2 := by
  unfold sout0_C_1
  rw [View.read_writes_eq_canon _ _ _ (scover0_C_1 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rfl

set_option maxHeartbeats 1000000 in
/-- The last tag that the last point of a row group leaves. -/
theorem sout0_C_2_eq (hc0 : ¬cond0_0 i) (hc1 : cond0_1 i) : sout0_C_2 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay2 (k0_pay20 x1) := by
  unfold sout0_C_2
  rw [View.read_writes_eq_canon _ _ _ (scover0_C_2 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]

set_option maxHeartbeats 1000000 in
/-- The scale that the last point of a row group leaves. -/
theorem sout0_C_3_eq (hc0 : ¬cond0_0 i) (hc1 : cond0_1 i) : sout0_C_3 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay17 (sweep i x0 x2 x3 (xs0, xs3, xs4, xs5) k0_t1_loop.trips).2.1 := by
  unfold sout0_C_3
  rw [View.read_writes_eq_canon _ _ _ (scover0_C_3 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]

set_option maxHeartbeats 1000000 in
/-- The scale's logarithm that the last point of a row group leaves. -/
theorem sout0_C_4_eq (hc0 : ¬cond0_0 i) (hc1 : cond0_1 i) : sout0_C_4 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay18 (sweep i x0 x2 x3 (xs0, xs3, xs4, xs5) k0_t1_loop.trips).2.2.1 := by
  unfold sout0_C_4
  rw [View.read_writes_eq_canon _ _ _ (scover0_C_4 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]

set_option maxHeartbeats 1000000 in
/-- The exponent that the last point of a row group leaves. -/
theorem sout0_C_5_eq (hc0 : ¬cond0_0 i) (hc1 : cond0_1 i) : sout0_C_5 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay19 (sweep i x0 x2 x3 (xs0, xs3, xs4, xs5) k0_t1_loop.trips).2.2.2 := by
  unfold sout0_C_5
  rw [View.read_writes_eq_canon _ _ _ (scover0_C_5 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]

set_option maxHeartbeats 1000000 in
/-- The result that the last point of a row group leaves. -/
theorem out0_C_5_eq (hc0 : ¬cond0_0 i) (hc1 : cond0_1 i) : out0_C_5 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay3 (k0_pay5 x4) (sweep i x0 x2 x3 (xs0, xs3, xs4, xs5) k0_t1_loop.trips).1 (sweep i x0 x2 x3 (xs0, xs3, xs4, xs5) k0_t1_loop.trips).2.2.2 (accNext i x0 x1 x2 x3 x4 xs1 xs2) := by
  unfold out0_C_5
  rw [View.read_writes_eq_canon _ _ _ (cover0_C_5 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  simp only [View.readAt_eq_ld, h2.read_unread, h3.read_unread, h4.read_unread, h5.read_unread, h6.read_unread, h8.read_unread, h9.read_unread, h10.read_unread, h11.read_unread, h12.read_unread, h13.read_unread,
    View.canon_cons_unit_zero (Val := Elt F) (S := S32x48) off2,
    View.readCov_unit_zero (Val := Elt F) (S := S32x48) _ off2,
    View.canon_cons_unit_zero (Val := Elt F) (S := S1x32) off2,
    View.readCov_unit_zero (Val := Elt F) (S := S1x32) _ off2,
    View.canon_cons_unit_zero (Val := Elt F) (S := S32x1) off2,
    View.readCov_unit_zero (Val := Elt F) (S := S32x1) _ off2,
    View.canon_cons_unit_zero (Val := Elt F) (S := S1x1x32) off3,
    View.ld_unit_zero (Val := Elt F) (S := S32x48) off2,
    View.ld_unit_zero (Val := Elt F) (S := S48x48) off2,
    View.ld_unit_zero (Val := Elt F) (S := S1x48) off2,
    View.ld_unit_zero (Val := Elt F) (S := S1x32) off2,
    View.ld_unit_zero (Val := Elt F) (S := S32x1) off2,
    View.ld_unit_zero (Val := Elt F) (S := S1x1x32) off3,
    View.ld_unit_zero (Val := Elt F) (S := S512x32x48) off3,
    View.ld_unit_zero (Val := Elt F) (S := S1x512x32) off3]
  rw [st_eq c i a2 h2 a3 h3 a4 h4 a5 h5 a6 h6 a7 h7 a8 h8 a9 h9 a10 h10 a11 h11 a12 h12 a13 h13 x0 x2 x3 (xs0, xs3, xs4, xs5)]
  rfl

end
end Cert.Crf
-- ==== Proof.KernelStep.lean ====
/- One trip of the kernel's loop at an index, and the loop of one grid point: the weights it carries stand for the forward
   variables after each position. -/
module
public import proofs.«01_k».proof.Proof.Alpha
public import proofs.«01_k».proof.Proof.RefStep
public import proofs.«01_k».proof.Proof.Point
public import Idealize.ShloMosaic.Lib.MatmulPlain
public import Idealize.ShloMosaic.Lib.WordArith.Masks
public import Idealize.ShloMosaic.Lib.ValueLayout
public import Idealize.ShloMosaic.Lib.ValueLayoutCasts
@[expose] public section
noncomputable section
namespace Cert.Crf
open Idealize.ShloMosaic Idealize.ShloMosaic.ValueIdx Cert.KernelIdeal Cert.KernelIdeal.Gen

/-- The loop makes 512 trips. -/
theorem trips_eq : k0_t1_loop.trips = 512 := by decide

/-- The loop's variable on trip `k`. -/
theorem iv_val (k : Fin k0_t1_loop.trips) : (Scf.iv 0#32 1#32 k.val).toNat = k.val :=
  WordArith.toNat_iv_zero_one _ (by have := lt_of_lt_of_eq k.isLt trips_eq; omega)

/-- Where trip `k` reads the emissions. -/
theorem off1_eq (k : Fin k0_t1_loop.trips) : k0_off1 k = ![k.val, 0, 0] := by
  show ![(Scf.iv 0#32 1#32 k.val).toNat, 0, 0] = _
  rw [iv_val]

/-- The emissions trip `k` reads. -/
theorem emRow_apply (x0 : Vec Ideal S512x32x48 .f32) (k : Fin k0_t1_loop.trips) (l : Fin 512) (hl : l.val = k.val) (b : Fin 32) (t : Fin 48) :
    emRow x0 k (ix3 (0 : Fin 1) b t) = x0 (ix3 l b t) := by
  refine congrArg x0 (funext fun a => Fin.ext ?_)
  have h := congrFun (off1_eq k) a
  show k0_off1 k a + 1 * _ = _
  rw [h]
  fin_cases a
  · show k.val + 1 * 0 = l.val
    omega
  · show 0 + 1 * b.val = b.val
    omega
  · show 0 + 1 * t.val = t.val
    omega

/-- Whether a trip is the very first of its row group, as the word the body tests. -/
def isStart (i : grid0.Coords) (k : Fin k0_t1_loop.trips) : BitVec 1 := Scalar.andi (isFirst i) (Scalar.cmpi .eq (Scf.iv 0#32 1#32 k.val) 0#32)

/-- The point is the first of its row group. -/
theorem isFirst_eq (i : grid0.Coords) : isFirst i = BitVec.ofBool (decide ((i 1).val = 0)) := by
  have h : (i 1).val < 16 := (i 1).isLt
  exact WordCmp.cmpi_eq_ofNat (w := 32) (a := (i 1).val) (b := 0) (by omega) (by omega)

/-- The point is the last of its row group. -/
theorem isLast_eq (i : grid0.Coords) : isLast i = BitVec.ofBool (decide ((i 1).val = 15)) := by
  have h : (i 1).val < 16 := (i 1).isLt
  exact WordCmp.cmpi_eq_ofNat (w := 32) (a := (i 1).val) (b := 15) (by omega) (by omega)

/-- The trip is the very first of its row group. -/
theorem isStart_eq (i : grid0.Coords) (k : Fin k0_t1_loop.trips) : isStart i k = BitVec.ofBool (decide ((i 1).val = 0) && decide (k.val = 0)) := by
  unfold isStart
  rw [isFirst_eq]
  have h : Scalar.cmpi .eq (Scf.iv 0#32 1#32 k.val) 0#32 = BitVec.ofBool (decide (k.val = 0)) := by
    refine (WordCmp.cmpi_eq_eq_toNat _ _).trans ?_
    rw [iv_val]; rfl
  rw [h]
  exact WordCmp.andi_ofBool _ _

/-- A choice between arrays at an index. -/
theorem select_apply {S : Shape} {α : Type} (c : BitVec 1) (x y : S.Idx → α) (i : S.Idx) : Scalar.select c x y i = Scalar.select c (x i) (y i) := by
  unfold Scalar.select; split <;> rfl

section Trip
variable (i : grid0.Coords) (x2 : Vec Ideal S48x48 .f32) (x3 : Vec Ideal S1x48 .f32) (k : Fin k0_t1_loop.trips) (u : Vec Ideal S32x48 .f32) (r lr M : Vec Ideal S32x1 .f32)
  (em : Vec Ideal S1x32x48 .f32)

/-- The weights of a trip at an index. -/
theorem pay12_apply (b : Fin 32) (t : Fin 48) : k0_pay12 i x2 x3 k u r em (ix2 b t) = Scalar.select (isStart i k)
    (Ideal.exp (x3 (ix2 (0 : Fin 1) t)) * Ideal.exp (em (ix3 (0 : Fin 1) b t)) : EReal)
    ((∑ k', (u (ix2 b k') : EReal) * Ideal.exp (x2 (ix2 k' t))) * (Ideal.exp (em (ix3 (0 : Fin 1) b t)) * r (ix2 b (0 : Fin 1))) : EReal) := by
  have e4 : k0_pay4 x3 = x3 := by
    unfold k0_pay4
    exact shapeCast_self _ _
  have e1 : shapeCast S32x48 em shapeCasts_S1x32x48_S32x48 (ix2 b t) = em (ix3 (0 : Fin 1) b t) := shapeCast_apply _ _ _ _ (by
    rw [Shape.rowMajor_val_three, Shape.rowMajor_val_two]; show (0 * 32 + b.val) * 48 + t.val = b.val * 48 + t.val; omega)
  have e2 : broadcastTo S32x48 r broadcasts_S32x1_S32x48 (ix2 b t) = r (ix2 b (0 : Fin 1)) := broadcastTo_apply _ _ _ _ (by intro a; fin_cases a <;> rfl)
  have e3 : broadcastTo S32x48 (exp (k0_pay4 x3)) broadcasts_S1x48_S32x48 (ix2 b t) = Ideal.exp (x3 (ix2 (0 : Fin 1) t)) := by
    rw [e4]
    exact broadcastTo_apply _ _ _ _ (by intro a; fin_cases a <;> rfl)
  have em' : matmul (φ₁ := .f32) (φ₂ := .f32) dot_S32x48_S48x48_S32x48_1_0_0_1_n_n none u (exp (φ := .f32) x2) (constant (F := Ideal) S32x48 .f32 0x00000000#32) (ix2 b t)
      = ∑ k', (u (ix2 b k') : EReal) * Ideal.exp (x2 (ix2 k' t)) := by
    refine (Ideal.matmul_plain_apply (φ₁ := .f32) (φ₂ := .f32) (M := 32) (K := 48) (N := 48) none u (exp (φ := .f32) x2) _ b t).trans ?_
    have hz : constant (F := Ideal) S32x48 .f32 0x00000000#32 (ix2 b t) = (0 : EReal) := bits_zero
    rw [hz, zero_add]
    rfl
  unfold k0_pay12
  dsimp only
  refine (select_apply _ _ _ _).trans ?_
  refine congrArg₂ (Scalar.select (isStart i k)) ?_ ?_
  · exact congrArg₂ (fun x y : EReal => x * y) e3 (congrArg Ideal.exp e1)
  · exact congrArg₂ (fun x y : EReal => x * y) em' (congrArg₂ (fun x y : EReal => x * y) (congrArg Ideal.exp e1) e2)

/-- The reciprocal of a trip at an index. -/
theorem pay14_apply (b : Fin 32) : k0_pay14 i x2 x3 k u r em (ix2 b (0 : Fin 1)) = Ideal.div 1 (k0_pay12 i x2 x3 k u r em (ix2 b (0 : Fin 48))) := by
  have e1 : extractStridedSlice S32x1 ![0, 0] (k0_pay12 i x2 x3 k u r em) slices_S32x48_o0_0_S32x1 (ix2 b (0 : Fin 1)) = k0_pay12 i x2 x3 k u r em (ix2 b (0 : Fin 48)) :=
    extractStridedSlice_apply _ _ _ _ _ (by intro a; fin_cases a <;> simp)
  unfold k0_pay14
  exact congrArg₂ Ideal.div bits_one e1

/-- The reciprocal's logarithm of a trip at an index. -/
theorem pay15_apply (b : Fin 32) : k0_pay15 i x2 x3 k u r em (ix2 b (0 : Fin 1)) = Ideal.log (k0_pay14 i x2 x3 k u r em (ix2 b (0 : Fin 1))) := rfl

/-- The exponent of a trip at an index. -/
theorem pay13_apply (b : Fin 32) : k0_pay13 i k lr M (ix2 b (0 : Fin 1)) = Scalar.select (isStart i k) (0 : EReal) (M (ix2 b (0 : Fin 1)) - lr (ix2 b (0 : Fin 1)) : EReal) := by
  unfold k0_pay13
  dsimp only
  refine (select_apply _ _ _ _).trans ?_
  exact congrArg₂ (Scalar.select (isStart i k)) bits_zero rfl

end Trip

/-- The carried arrays stand, at a row, for the forward variables after position `n`. -/
def CarryStands (E : ℕ → Fin 48 → ℝ) (A : Fin 48 → Fin 48 → ℝ) (S : Fin 48 → ℝ) (n : ℕ) (s : Carry Ideal) (b : Fin 32) : Prop :=
  Stands E A S n (fun t => s.1 (ix2 b t)) (s.2.1 (ix2 b (0 : Fin 1))) (s.2.2.1 (ix2 b (0 : Fin 1))) (s.2.2.2 (ix2 b (0 : Fin 1)))

section Sweep
variable (i : grid0.Coords) (x0 : Vec Ideal S512x32x48 .f32) (x2 : Vec Ideal S48x48 .f32) (x3 : Vec Ideal S1x48 .f32) (b : Fin 32)
  (E : ℕ → Fin 48 → ℝ) (A : Fin 48 → Fin 48 → ℝ) (S : Fin 48 → ℝ)
  (hE : ∀ (l : Fin 512) t, x0 (ix3 l b t) = ((E (512 * (i 1).val + l.val) t : ℝ) : EReal))
  (hA : ∀ k t, x2 (ix2 k t) = ((A k t : ℝ) : EReal)) (hS : ∀ t, x3 (ix2 (0 : Fin 1) t) = ((S t : ℝ) : EReal))
include hE hA hS

/-- The very first trip. -/
theorem trip_first (k : Fin k0_t1_loop.trips) (hi : (i 1).val = 0) (hk : k.val = 0) (s : Carry Ideal) : CarryStands E A S 0 (trip i x0 x2 x3 k s) b := by
  have hc : isStart i k = 1#1 := by rw [isStart_eq, hi, hk]; rfl
  have hk' : k.val < 512 := lt_of_lt_of_eq k.isLt trips_eq
  have h := stands_first E A S (fun t => k0_pay12 i x2 x3 k s.1 s.2.1 (emRow x0 k) (ix2 b t)) (fun t => by
    show k0_pay12 i x2 x3 k s.1 s.2.1 (emRow x0 k) (ix2 b t) = _
    rw [pay12_apply, hc, emRow_apply x0 k ⟨k.val, hk'⟩ rfl, hE, hS]
    show _ = Ideal.exp ((S t : ℝ) : EReal) * Ideal.exp ((E 0 t : ℝ) : EReal)
    simp only [hi, hk]
    rfl)
  unfold CarryStands trip
  dsimp only
  rw [pay15_apply, pay14_apply, pay13_apply, hc]
  exact h

/-- Any other trip. -/
theorem trip_next (k : Fin k0_t1_loop.trips) (hk : ¬ ((i 1).val = 0 ∧ k.val = 0)) (n : ℕ) (hn : 512 * (i 1).val + k.val = n + 1) (s : Carry Ideal)
    (hs : CarryStands E A S n s b) : CarryStands E A S (n + 1) (trip i x0 x2 x3 k s) b := by
  have hc : isStart i k = 0#1 := by
    rw [isStart_eq, ← Bool.decide_and, decide_eq_false hk]; rfl
  have hk' : k.val < 512 := lt_of_lt_of_eq k.isLt trips_eq
  have h := stands_next E A S n _ (fun t => k0_pay12 i x2 x3 k s.1 s.2.1 (emRow x0 k) (ix2 b t)) _ _ _ hs (fun t => by
    show k0_pay12 i x2 x3 k s.1 s.2.1 (emRow x0 k) (ix2 b t) = _
    rw [pay12_apply, hc, emRow_apply x0 k ⟨k.val, hk'⟩ rfl, hE]
    simp only [hA, hn]
    rfl)
  unfold CarryStands trip
  dsimp only
  rw [pay15_apply, pay14_apply, pay13_apply, hc]
  exact h

/-- The loop of the first point. -/
theorem sweep_first (hi : (i 1).val = 0) (init : Carry Ideal) : ∀ n, n < 512 → CarryStands E A S n (sweep i x0 x2 x3 init (n + 1)) b
  | 0, _ => by
    rw [sweep, dif_pos (by rw [trips_eq]; omega)]
    exact trip_first i x0 x2 x3 b E A S hE hA hS _ hi rfl _
  | n + 1, hn => by
    rw [sweep, dif_pos (by rw [trips_eq]; omega)]
    exact trip_next i x0 x2 x3 b E A S hE hA hS _ (by rintro ⟨-, h⟩; exact absurd h (Nat.succ_ne_zero n)) n (by rw [hi]; show 512 * 0 + (n + 1) = n + 1; omega) _ (sweep_first hi init n (by omega))

/-- The loop of a later point. -/
theorem sweep_next (p : ℕ) (hi : (i 1).val = p + 1) (init : Carry Ideal) (h0 : CarryStands E A S (512 * p + 511) init b) :
    ∀ n, n ≤ 512 → CarryStands E A S (512 * p + 511 + n) (sweep i x0 x2 x3 init n) b
  | 0, _ => h0
  | n + 1, hn => by
    rw [sweep, dif_pos (by rw [trips_eq]; omega)]
    exact trip_next i x0 x2 x3 b E A S hE hA hS _ (by rintro ⟨h, -⟩; omega) (512 * p + 511 + n) (by rw [hi]; show 512 * (p + 1) + n = _; omega) _ (sweep_next p hi init h0 n (by omega))

end Sweep
end Cert.Crf
-- ==== Proof.Fields.lean ====
/- What each grid point leaves in the carried buffers and in the result block, case by case, in terms of the loop `sweep`
   and the score `accNext`. -/
module
public import proofs.«01_k».proof.Proof.KernelStep
@[expose] public section
noncomputable section
namespace Cert.Crf
open Idealize.SL.Sem Idealize.ShloMosaic Idealize.ShloMosaic.TcCoe Cert.KernelIdeal Cert.KernelIdeal.Gen Cert.KernelIdeal.Value

/-- The seven arrays a point leaves: the result block, the weights, the score, the last tags, and the loop's three columns. -/
abbrev Left := Vec Ideal S1x1x32 .f32 × Vec Ideal S32x48 .f32 × Vec Ideal S32x48 .f32 × Vec Ideal S1x32 .i32 × Vec Ideal S32x1 .f32 × Vec Ideal S32x1 .f32 × Vec Ideal S32x1 .f32

/-- What the loop of a point starts from, of what the point before left. -/
abbrev carryOf (a : Left) : Carry Ideal := (a.2.1, a.2.2.2.2.1, a.2.2.2.2.2.1, a.2.2.2.2.2.2)

variable (m : (ℓ : Loc nD τ sig) → Buf (Elt Ideal) ℓ) (c : Dev nD) (t : Fin cfg0.N) (acc : Left)

/-- The loop's arrays after point `t`, from its start. -/
abbrev swept (init : Carry Ideal) : Carry Ideal := sweep (grid0.coords t) (iblk m c 0 t) (iblk m c 2 t) (iblk m c 3 t) init k0_t1_loop.trips

/-- The score after point `t`, from the score and the last tags before. -/
abbrev scored (s : Vec Ideal S32x48 .f32) (prev : Vec Ideal S1x32 .i32) : Vec Ideal S32x48 .f32 :=
  accNext (grid0.coords t) (iblk m c 0 t) (iblk m c 1 t) (iblk m c 2 t) (iblk m c 3 t) (iblk m c 4 t) s prev

/-- The weights the first point of a half leaves. -/
theorem weights_A (h0 : t.val % 16 = 0) (h1 : ¬t.val % 16 = 15) : (stAt0 m c t.val t.isLt acc).2.1 = (swept m c t (k0_pay6 (F := Ideal), k0_pay9 (F := Ideal), k0_pay10 (F := Ideal), k0_pay11 (F := Ideal))).1 := by
  rw [stAt0_A m c t acc h0 h1]
  exact (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) (fun h => h1 ((hcond0_1 t).mp h))).trans (shapeCast_self _ _)

/-- The score the first point of a half leaves. -/
theorem score_A (h0 : t.val % 16 = 0) (h1 : ¬t.val % 16 = 15) : (stAt0 m c t.val t.isLt acc).2.2.1 = scored m c t (k0_pay7 (F := Ideal)) k0_pay8 := by
  rw [stAt0_A m c t acc h0 h1]
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) (fun h => h1 ((hcond0_1 t).mp h))

/-- The tags the first point of a half leaves. -/
theorem tags_A (h0 : t.val % 16 = 0) (h1 : ¬t.val % 16 = 15) : (stAt0 m c t.val t.isLt acc).2.2.2.1 = k0_pay2 (k0_pay20 (F := Ideal) (iblk m c 1 t)) := by
  rw [stAt0_A m c t acc h0 h1]
  exact sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) (fun h => h1 ((hcond0_1 t).mp h))

/-- The scale the first point of a half leaves. -/
theorem scale_A (h0 : t.val % 16 = 0) (h1 : ¬t.val % 16 = 15) : (stAt0 m c t.val t.isLt acc).2.2.2.2.1 = (swept m c t (k0_pay6 (F := Ideal), k0_pay9 (F := Ideal), k0_pay10 (F := Ideal), k0_pay11 (F := Ideal))).2.1 := by
  rw [stAt0_A m c t acc h0 h1]
  exact (sout0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) (fun h => h1 ((hcond0_1 t).mp h))).trans (shapeCast_self _ _)

/-- The logScale the first point of a half leaves. -/
theorem logScale_A (h0 : t.val % 16 = 0) (h1 : ¬t.val % 16 = 15) : (stAt0 m c t.val t.isLt acc).2.2.2.2.2.1 = (swept m c t (k0_pay6 (F := Ideal), k0_pay9 (F := Ideal), k0_pay10 (F := Ideal), k0_pay11 (F := Ideal))).2.2.1 := by
  rw [stAt0_A m c t acc h0 h1]
  exact (sout0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) (fun h => h1 ((hcond0_1 t).mp h))).trans (shapeCast_self _ _)

/-- The exponent the first point of a half leaves. -/
theorem exponent_A (h0 : t.val % 16 = 0) (h1 : ¬t.val % 16 = 15) : (stAt0 m c t.val t.isLt acc).2.2.2.2.2.2 = (swept m c t (k0_pay6 (F := Ideal), k0_pay9 (F := Ideal), k0_pay10 (F := Ideal), k0_pay11 (F := Ideal))).2.2.2 := by
  rw [stAt0_A m c t acc h0 h1]
  exact (sout0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) (fun h => h1 ((hcond0_1 t).mp h))).trans (shapeCast_self _ _)

/-- The weights the middle point of a half leaves. -/
theorem weights_B (h0 : ¬t.val % 16 = 0) (h1 : ¬t.val % 16 = 15) : (stAt0 m c t.val t.isLt acc).2.1 = (swept m c t (carryOf acc)).1 := by
  rw [stAt0_B m c t acc h0 h1]
  exact (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) acc.2.1 acc.2.2.1 acc.2.2.2.1 acc.2.2.2.2.1 acc.2.2.2.2.2.1 acc.2.2.2.2.2.2 (fun h => h0 ((hcond0_0 t).mp h)) (fun h => h1 ((hcond0_1 t).mp h))).trans (shapeCast_self _ _)

/-- The score the middle point of a half leaves. -/
theorem score_B (h0 : ¬t.val % 16 = 0) (h1 : ¬t.val % 16 = 15) : (stAt0 m c t.val t.isLt acc).2.2.1 = scored m c t acc.2.2.1 acc.2.2.2.1 := by
  rw [stAt0_B m c t acc h0 h1]
  exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) acc.2.1 acc.2.2.1 acc.2.2.2.1 acc.2.2.2.2.1 acc.2.2.2.2.2.1 acc.2.2.2.2.2.2 (fun h => h0 ((hcond0_0 t).mp h)) (fun h => h1 ((hcond0_1 t).mp h))

/-- The tags the middle point of a half leaves. -/
theorem tags_B (h0 : ¬t.val % 16 = 0) (h1 : ¬t.val % 16 = 15) : (stAt0 m c t.val t.isLt acc).2.2.2.1 = k0_pay2 (k0_pay20 (F := Ideal) (iblk m c 1 t)) := by
  rw [stAt0_B m c t acc h0 h1]
  exact sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) acc.2.1 acc.2.2.1 acc.2.2.2.1 acc.2.2.2.2.1 acc.2.2.2.2.2.1 acc.2.2.2.2.2.2 (fun h => h0 ((hcond0_0 t).mp h)) (fun h => h1 ((hcond0_1 t).mp h))

/-- The scale the middle point of a half leaves. -/
theorem scale_B (h0 : ¬t.val % 16 = 0) (h1 : ¬t.val % 16 = 15) : (stAt0 m c t.val t.isLt acc).2.2.2.2.1 = (swept m c t (carryOf acc)).2.1 := by
  rw [stAt0_B m c t acc h0 h1]
  exact (sout0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) acc.2.1 acc.2.2.1 acc.2.2.2.1 acc.2.2.2.2.1 acc.2.2.2.2.2.1 acc.2.2.2.2.2.2 (fun h => h0 ((hcond0_0 t).mp h)) (fun h => h1 ((hcond0_1 t).mp h))).trans (shapeCast_self _ _)

/-- The logScale the middle point of a half leaves. -/
theorem logScale_B (h0 : ¬t.val % 16 = 0) (h1 : ¬t.val % 16 = 15) : (stAt0 m c t.val t.isLt acc).2.2.2.2.2.1 = (swept m c t (carryOf acc)).2.2.1 := by
  rw [stAt0_B m c t acc h0 h1]
  exact (sout0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) acc.2.1 acc.2.2.1 acc.2.2.2.1 acc.2.2.2.2.1 acc.2.2.2.2.2.1 acc.2.2.2.2.2.2 (fun h => h0 ((hcond0_0 t).mp h)) (fun h => h1 ((hcond0_1 t).mp h))).trans (shapeCast_self _ _)

/-- The exponent the middle point of a half leaves. -/
theorem exponent_B (h0 : ¬t.val % 16 = 0) (h1 : ¬t.val % 16 = 15) : (stAt0 m c t.val t.isLt acc).2.2.2.2.2.2 = (swept m c t (carryOf acc)).2.2.2 := by
  rw [stAt0_B m c t acc h0 h1]
  exact (sout0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) acc.2.1 acc.2.2.1 acc.2.2.2.1 acc.2.2.2.2.1 acc.2.2.2.2.2.1 acc.2.2.2.2.2.2 (fun h => h0 ((hcond0_0 t).mp h)) (fun h => h1 ((hcond0_1 t).mp h))).trans (shapeCast_self _ _)

/-- The result block the last point of a half leaves. -/
theorem result_C (h0 : ¬t.val % 16 = 0) (h1 : t.val % 16 = 15) : (stAt0 m c t.val t.isLt acc).1
    = k0_pay3 (k0_pay5 (iblk m c 4 t)) (swept m c t (carryOf acc)).1 (swept m c t (carryOf acc)).2.2.2 (scored m c t acc.2.2.1 acc.2.2.2.1) := by
  rw [stAt0_C m c t acc h0 h1]
  exact out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) acc.2.1 acc.2.2.1 acc.2.2.2.1 acc.2.2.2.2.1 acc.2.2.2.2.2.1 acc.2.2.2.2.2.2 (fun h => h0 ((hcond0_0 t).mp h)) ((hcond0_1 t).mpr h1)

end Cert.Crf
-- ==== Proof.Gather.lean ====
/- The reference's five gathers at an index: with the start index in range each reads the operand at it. -/
module
public import proofs.«01_k».proof.ReferenceIdeal
public import proofs.«01_k».proof.Proof.Gen.ReferenceIdeal
public import Idealize.ShloMosaic.Lib.ValueIdxCore
@[expose] public section
noncomputable section
namespace Cert.Crf
open Idealize.ShloMosaic Idealize.ShloMosaic.ValueIdx Cert.ReferenceIdeal Cert.ReferenceIdeal.Gen

/-- A gather reads the operand where its three parts of the index point. -/
theorem gather_at {s si t : Shape} {α : Type} {w : ℕ} (d : GatherDims s si t) (x : s.Idx → α) (idx : IVec si w) (j : t.Idx) (k : s.Idx)
    (h : ∀ a, d.start j idx a + d.batchCoord j a + d.offCoord j a = (k a).val) : Host.gather d x idx j = x k :=
  congrArg x (funext fun a => Fin.ext (h a))

/-- The start on an axis the start indices map, when the index read there is in range. -/
theorem start_at {s si t : Shape} {w : ℕ} (d : GatherDims s si t) (idx : IVec si w) (j : t.Idx) (a : Fin s.rank) (ha : a ∈ d.startIndexMap)
    (i : si.Idx) (hi : d.siIdx j ⟨d.startIndexMap.idxOf a, List.idxOf_lt_length_iff.2 ha⟩ = i) (k : ℕ) (hk : (idx i).toInt.toNat = k)
    (hlt : k ≤ s.size a - d.sliceSizes a) : d.start j idx a = k := by
  unfold GatherDims.start
  rw [dif_pos ha, hi, hk]
  exact Nat.min_eq_left hlt

variable {α : Type}

/-- One entry of each row of a batch of sequences of rows. -/
theorem gather_entry8192 (x : S64x8192x48.Idx → α) (idx : IVec S64x8192x1x1 32) (b : Fin 64) (l : Fin 8192) (k : Fin 48) (h : (idx (ix4 b l (0 : Fin 1) (0 : Fin 1))).toInt.toNat = k.val) :
    Host.gather gather_S64x8192x48_S64x8192x1x1_S64x8192x1_n_2_01_01_2_3_111 x idx (ix3 b l (0 : Fin 1)) = x (ix3 b l k) := by
  refine gather_at _ _ _ _ _ fun a => ?_
  match a with
  | ⟨0, _⟩ =>
    have e := GatherDims.start_batching gather_S64x8192x48_S64x8192x1x1_S64x8192x1_n_2_01_01_2_3_111 (ix3 b l (0 : Fin 1)) idx (0 : Fin 3) (by decide)
    have e2 := GatherDims.offCoord_eq_zero gather_S64x8192x48_S64x8192x1x1_S64x8192x1_n_2_01_01_2_3_111 (ix3 b l (0 : Fin 1)) (0 : Fin 3) (by decide)
    have e1 : GatherDims.batchCoord gather_S64x8192x48_S64x8192x1x1_S64x8192x1_n_2_01_01_2_3_111 (ix3 b l (0 : Fin 1)) (0 : Fin 3) = (ix3 b l k : S64x8192x48.Idx) (0 : Fin 3) := by
      unfold GatherDims.batchCoord
      rw [dif_pos (by decide)]
      rfl
    exact (congrArg₂ (· + ·) (congrArg₂ (· + ·) e e1) e2).trans (by simp)
  | ⟨1, _⟩ =>
    have e := GatherDims.start_batching gather_S64x8192x48_S64x8192x1x1_S64x8192x1_n_2_01_01_2_3_111 (ix3 b l (0 : Fin 1)) idx (1 : Fin 3) (by decide)
    have e2 := GatherDims.offCoord_eq_zero gather_S64x8192x48_S64x8192x1x1_S64x8192x1_n_2_01_01_2_3_111 (ix3 b l (0 : Fin 1)) (1 : Fin 3) (by decide)
    have e1 : GatherDims.batchCoord gather_S64x8192x48_S64x8192x1x1_S64x8192x1_n_2_01_01_2_3_111 (ix3 b l (0 : Fin 1)) (1 : Fin 3) = (ix3 b l k : S64x8192x48.Idx) (1 : Fin 3) := by
      unfold GatherDims.batchCoord
      rw [dif_pos (by decide)]
      rfl
    exact (congrArg₂ (· + ·) (congrArg₂ (· + ·) e e1) e2).trans (by simp)
  | ⟨2, _⟩ =>
    have e := start_at gather_S64x8192x48_S64x8192x1x1_S64x8192x1_n_2_01_01_2_3_111 idx (ix3 b l (0 : Fin 1)) (2 : Fin 3) (List.mem_singleton.mpr rfl) (ix4 b l (0 : Fin 1) (0 : Fin 1)) (by
      funext b; refine Fin.ext ?_
      match b with
      | ⟨0, _⟩ => rfl
      | ⟨1, _⟩ => rfl
      | ⟨2, _⟩ => rfl
      | ⟨3, _⟩ => rfl
      ) k.val h (by have := k.isLt; show k.val ≤ 48 - 1; omega)
    have e1 := GatherDims.batchCoord_eq_zero gather_S64x8192x48_S64x8192x1x1_S64x8192x1_n_2_01_01_2_3_111 (ix3 b l (0 : Fin 1)) (2 : Fin 3) (by decide)
    have e2 := GatherDims.offCoord_eq_zero gather_S64x8192x48_S64x8192x1x1_S64x8192x1_n_2_01_01_2_3_111 (ix3 b l (0 : Fin 1)) (2 : Fin 3) (by decide)
    exact (congrArg₂ (· + ·) (congrArg₂ (· + ·) e e1) e2)

/-- One entry of each row of a batch of sequences of rows. -/
theorem gather_entry8191 (x : S64x8191x48.Idx → α) (idx : IVec S64x8191x1x1 32) (b : Fin 64) (l : Fin 8191) (k : Fin 48) (h : (idx (ix4 b l (0 : Fin 1) (0 : Fin 1))).toInt.toNat = k.val) :
    Host.gather gather_S64x8191x48_S64x8191x1x1_S64x8191x1_n_2_01_01_2_3_111 x idx (ix3 b l (0 : Fin 1)) = x (ix3 b l k) := by
  refine gather_at _ _ _ _ _ fun a => ?_
  match a with
  | ⟨0, _⟩ =>
    have e := GatherDims.start_batching gather_S64x8191x48_S64x8191x1x1_S64x8191x1_n_2_01_01_2_3_111 (ix3 b l (0 : Fin 1)) idx (0 : Fin 3) (by decide)
    have e2 := GatherDims.offCoord_eq_zero gather_S64x8191x48_S64x8191x1x1_S64x8191x1_n_2_01_01_2_3_111 (ix3 b l (0 : Fin 1)) (0 : Fin 3) (by decide)
    have e1 : GatherDims.batchCoord gather_S64x8191x48_S64x8191x1x1_S64x8191x1_n_2_01_01_2_3_111 (ix3 b l (0 : Fin 1)) (0 : Fin 3) = (ix3 b l k : S64x8191x48.Idx) (0 : Fin 3) := by
      unfold GatherDims.batchCoord
      rw [dif_pos (by decide)]
      rfl
    exact (congrArg₂ (· + ·) (congrArg₂ (· + ·) e e1) e2).trans (by simp)
  | ⟨1, _⟩ =>
    have e := GatherDims.start_batching gather_S64x8191x48_S64x8191x1x1_S64x8191x1_n_2_01_01_2_3_111 (ix3 b l (0 : Fin 1)) idx (1 : Fin 3) (by decide)
    have e2 := GatherDims.offCoord_eq_zero gather_S64x8191x48_S64x8191x1x1_S64x8191x1_n_2_01_01_2_3_111 (ix3 b l (0 : Fin 1)) (1 : Fin 3) (by decide)
    have e1 : GatherDims.batchCoord gather_S64x8191x48_S64x8191x1x1_S64x8191x1_n_2_01_01_2_3_111 (ix3 b l (0 : Fin 1)) (1 : Fin 3) = (ix3 b l k : S64x8191x48.Idx) (1 : Fin 3) := by
      unfold GatherDims.batchCoord
      rw [dif_pos (by decide)]
      rfl
    exact (congrArg₂ (· + ·) (congrArg₂ (· + ·) e e1) e2).trans (by simp)
  | ⟨2, _⟩ =>
    have e := start_at gather_S64x8191x48_S64x8191x1x1_S64x8191x1_n_2_01_01_2_3_111 idx (ix3 b l (0 : Fin 1)) (2 : Fin 3) (List.mem_singleton.mpr rfl) (ix4 b l (0 : Fin 1) (0 : Fin 1)) (by
      funext b; refine Fin.ext ?_
      match b with
      | ⟨0, _⟩ => rfl
      | ⟨1, _⟩ => rfl
      | ⟨2, _⟩ => rfl
      | ⟨3, _⟩ => rfl
      ) k.val h (by have := k.isLt; show k.val ≤ 48 - 1; omega)
    have e1 := GatherDims.batchCoord_eq_zero gather_S64x8191x48_S64x8191x1x1_S64x8191x1_n_2_01_01_2_3_111 (ix3 b l (0 : Fin 1)) (2 : Fin 3) (by decide)
    have e2 := GatherDims.offCoord_eq_zero gather_S64x8191x48_S64x8191x1x1_S64x8191x1_n_2_01_01_2_3_111 (ix3 b l (0 : Fin 1)) (2 : Fin 3) (by decide)
    exact (congrArg₂ (· + ·) (congrArg₂ (· + ·) e e1) e2)

/-- One entry of a vector per batch row. -/
theorem gather_one (x : S48.Idx → α) (idx : IVec S64x1 32) (b : Fin 64) (k : Fin 48) (h : (idx (ix2 b (0 : Fin 1))).toInt.toNat = k.val) :
    Host.gather gather_S48_S64x1_S64_n_0_n_n_0_1_1 x idx (ix1 b) = x (ix1 k) := by
  refine gather_at _ _ _ _ _ fun a => ?_
  match a with
  | ⟨0, _⟩ =>
    have e := start_at gather_S48_S64x1_S64_n_0_n_n_0_1_1 idx (ix1 b) (0 : Fin 1) (List.mem_singleton.mpr rfl) (ix2 b (0 : Fin 1)) (by
      funext b; refine Fin.ext ?_
      match b with
      | ⟨0, _⟩ => rfl
      | ⟨1, _⟩ => rfl
      ) k.val h (by have := k.isLt; show k.val ≤ 48 - 1; omega)
    have e1 := GatherDims.batchCoord_eq_zero gather_S48_S64x1_S64_n_0_n_n_0_1_1 (ix1 b) (0 : Fin 1) (by decide)
    have e2 := GatherDims.offCoord_eq_zero gather_S48_S64x1_S64_n_0_n_n_0_1_1 (ix1 b) (0 : Fin 1) (by decide)
    exact (congrArg₂ (· + ·) (congrArg₂ (· + ·) e e1) e2)

/-- One row of a matrix per position. -/
theorem gather_rows (x : S48x48.Idx → α) (idx : IVec S64x8191x1 32) (b : Fin 64) (l : Fin 8191) (t k : Fin 48) (h : (idx (ix3 b l (0 : Fin 1))).toInt.toNat = k.val) :
    Host.gather gather_S48x48_S64x8191x1_S64x8191x48_2_0_n_n_0_2_148 x idx (ix3 b l t) = x (ix2 k t) := by
  refine gather_at _ _ _ _ _ fun a => ?_
  match a with
  | ⟨0, _⟩ =>
    have e := start_at gather_S48x48_S64x8191x1_S64x8191x48_2_0_n_n_0_2_148 idx (ix3 b l t) (0 : Fin 2) (List.mem_singleton.mpr rfl) (ix3 b l (0 : Fin 1)) (by
      funext b; refine Fin.ext ?_
      match b with
      | ⟨0, _⟩ => rfl
      | ⟨1, _⟩ => rfl
      | ⟨2, _⟩ => rfl
      ) k.val h (by have := k.isLt; show k.val ≤ 48 - 1; omega)
    have e1 := GatherDims.batchCoord_eq_zero gather_S48x48_S64x8191x1_S64x8191x48_2_0_n_n_0_2_148 (ix3 b l t) (0 : Fin 2) (by decide)
    have e2 := GatherDims.offCoord_eq_zero gather_S48x48_S64x8191x1_S64x8191x48_2_0_n_n_0_2_148 (ix3 b l t) (0 : Fin 2) (by decide)
    exact (congrArg₂ (· + ·) (congrArg₂ (· + ·) e e1) e2)
  | ⟨1, _⟩ =>
    have e : GatherDims.start gather_S48x48_S64x8191x1_S64x8191x48_2_0_n_n_0_2_148 (ix3 b l t) idx (1 : Fin 2) = 0 := by
      unfold GatherDims.start
      rw [dif_neg (by decide)]
    have e1 := GatherDims.batchCoord_eq_zero gather_S48x48_S64x8191x1_S64x8191x48_2_0_n_n_0_2_148 (ix3 b l t) (1 : Fin 2) (by decide)
    have e2 : GatherDims.offCoord gather_S48x48_S64x8191x1_S64x8191x48_2_0_n_n_0_2_148 (ix3 b l t) (1 : Fin 2) = (ix2 k t : S48x48.Idx) (1 : Fin 2) := by
      unfold GatherDims.offCoord
      rw [dif_pos (by decide)]
      rfl
    exact (congrArg₂ (· + ·) (congrArg₂ (· + ·) e e1) e2).trans (by simp)

/-- One position of each sequence. -/
theorem gather_last (x : S64x8192.Idx → α) (idx : IVec S64x1x1 32) (b : Fin 64) (k : Fin 8192) (h : (idx (ix3 b (0 : Fin 1) (0 : Fin 1))).toInt.toNat = k.val) :
    Host.gather gather_S64x8192_S64x1x1_S64x1_n_1_0_0_1_2_11 x idx (ix2 b (0 : Fin 1)) = x (ix2 b k) := by
  refine gather_at _ _ _ _ _ fun a => ?_
  match a with
  | ⟨0, _⟩ =>
    have e := GatherDims.start_batching gather_S64x8192_S64x1x1_S64x1_n_1_0_0_1_2_11 (ix2 b (0 : Fin 1)) idx (0 : Fin 2) (by decide)
    have e2 := GatherDims.offCoord_eq_zero gather_S64x8192_S64x1x1_S64x1_n_1_0_0_1_2_11 (ix2 b (0 : Fin 1)) (0 : Fin 2) (by decide)
    have e1 : GatherDims.batchCoord gather_S64x8192_S64x1x1_S64x1_n_1_0_0_1_2_11 (ix2 b (0 : Fin 1)) (0 : Fin 2) = (ix2 b k : S64x8192.Idx) (0 : Fin 2) := by
      unfold GatherDims.batchCoord
      rw [dif_pos (by decide)]
      rfl
    exact (congrArg₂ (· + ·) (congrArg₂ (· + ·) e e1) e2).trans (by simp)
  | ⟨1, _⟩ =>
    have e := start_at gather_S64x8192_S64x1x1_S64x1_n_1_0_0_1_2_11 idx (ix2 b (0 : Fin 1)) (1 : Fin 2) (List.mem_singleton.mpr rfl) (ix3 b (0 : Fin 1) (0 : Fin 1)) (by
      funext b; refine Fin.ext ?_
      match b with
      | ⟨0, _⟩ => rfl
      | ⟨1, _⟩ => rfl
      | ⟨2, _⟩ => rfl
      ) k.val h (by have := k.isLt; show k.val ≤ 8192 - 1; omega)
    have e1 := GatherDims.batchCoord_eq_zero gather_S64x8192_S64x1x1_S64x1_n_1_0_0_1_2_11 (ix2 b (0 : Fin 1)) (1 : Fin 2) (by decide)
    have e2 := GatherDims.offCoord_eq_zero gather_S64x8192_S64x1x1_S64x1_n_1_0_0_1_2_11 (ix2 b (0 : Fin 1)) (1 : Fin 2) (by decide)
    exact (congrArg₂ (· + ·) (congrArg₂ (· + ·) e e1) e2)

end Cert.Crf
-- ==== Proof.RefScore.lean ====
/- The reference's score and partition at an index. Under the preconditions the score is a sum of table entries at the
   tags: the start's, one emission per position, one transition per step, the end's. -/
module
public import proofs.«01_k».proof.Proof.Gather
public import proofs.«01_k».proof.Proof.RefStep
@[expose] public section
noncomputable section
namespace Cert.Crf
open Idealize.ShloMosaic Idealize.ShloMosaic.ValueIdx Cert.ReferenceIdeal Cert.ReferenceIdeal.Gen Cert.ReferenceIdeal.Step

/-- An index counted from the end when negative; `n` is the length. -/
def wrap (S : Shape) (h : S_.BroadcastsInDim S (![] : Fin 0 → Fin S.rank)) (n : BitVec 32) (x : IVec S 32) : IVec S 32 :=
  select (cmpi .slt x (broadcastInDim S ![] h (constantI S_ 32 0#32))) (addi x (broadcastInDim S ![] h (constantI S_ 32 n))) x

/-- An index that is not negative stays. -/
theorem wrap_apply (S : Shape) (h : S_.BroadcastsInDim S (![] : Fin 0 → Fin S.rank)) (n : BitVec 32) (x : IVec S 32) (i : S.Idx)
    (hx : (x i).toNat < 2 ^ 31) : wrap S h n x i = x i := by
  show Scalar.select (IntOp.cmpi .slt (x i) 0#32) (x i + n) (x i) = x i
  rw [WordCmp.cmpi_slt_zero, decide_eq_false (by omega)]
  rfl

/-- The integer read of a small word. -/
theorem toInt_small (x : BitVec 32) (hx : x.toNat < 2 ^ 31) : x.toInt.toNat = x.toNat := by
  rw [WordCmp.toInt_eq_toNat_of_lt_half hx]; rfl

/-- A tag as a number below 48. -/
def tagOf (x : BitVec 32) : Fin 48 := ⟨x.toNat % 48, Nat.mod_lt _ (by decide)⟩

/-- A tag in range is its word's number. -/
theorem tagOf_val (x : BitVec 32) (hx : x.toNat < 48) : (tagOf x).val = x.toNat := Nat.mod_eq_of_lt hx

section Pieces
variable (al : FVec Ideal S64x48 .f32) (a0 : FVec Ideal S64x8192x48 .f32) (a1 : IVec S64x8192 32) (a2 : IVec S64x8192 1)
  (a3 : FVec Ideal S48x48 .f32) (a4 a5 : FVec Ideal S48 .f32)

/-- The final forward variables with the end's entry added. -/
def finX : FVec Ideal S64x48 .f32 := addf al (broadcastInDim S64x48 ![0, 1] bcast_S1x48_S64x48_0_1 (broadcastInDim S1x48 ![1] bcast_S48_S1x48_1 a5))
/-- Their largest, per row. -/
def finMax : FVec Ideal S64x1 .f32 := broadcastInDim S64x1 ![0] bcast_S64_S64x1_0 (Host.reduce FloatOps.maximumf (finX al a5) (constant S_ .f32 0xFF800000#32) reducesTo_S64x48_S64_d1 h_S_)
/-- What is taken out of each row. -/
def finGuard : FVec Ideal S64x1 .f32 := select (cmpf .olt (Host.absf (finMax al a5)) (broadcastInDim S64x1 ![] bcast_S_S64x1 (constant S_ .f32 0x7F800000#32))) (finMax al a5) (broadcastInDim S64x1 ![] bcast_S_S64x1 (id (constant S_ .f32 0x00000000#32)))
/-- The partition of each row. -/
def part : FVec Ideal S64 .f32 :=
  addf (Host.log (Host.reduceAdd (Host.exp (subf (finX al a5) (broadcastInDim S64x48 ![0, 1] bcast_S64x1_S64x48_0_1 (finGuard al a5)))) (constant S_ .f32 0x00000000#32) reducesTo_S64x48_S64_d1 h_S_)) (shapeCast _ (finGuard al a5) shapeCasts_S64x1_S64)
/-- The start's entry at each row's first tag. -/
def startTerm : FVec Ideal S64 .f32 :=
  Host.gather gather_S48_S64x1_S64_n_0_n_n_0_1_1 a4 (broadcastInDim S64x1 ![0] bcast_S64_S64x1_0 (wrap S64 bcast_S_S64 48#32 (shapeCast _ (extractStridedSlice S64x1 ![0, 0] a1 slices_S64x8192_S64x1_0_0) shapeCasts_S64x1_S64)))
/-- Each position's emission at its tag. -/
def emitEntries : FVec Ideal S64x8192 .f32 :=
  shapeCast _ (Host.gather gather_S64x8192x48_S64x8192x1x1_S64x8192x1_n_2_01_01_2_3_111 a0 (broadcastInDim S64x8192x1x1 ![0, 1, 2] bcast_S64x8192x1_S64x8192x1x1_0_1_2 (wrap S64x8192x1 bcast_S_S64x8192x1 48#32 (broadcastInDim S64x8192x1 ![0, 1] bcast_S64x8192_S64x8192x1_0_1 a1)))) shapeCasts_S64x8192x1_S64x8192
/-- The emissions of each row, summed. -/
def emitTerm : FVec Ideal S64 .f32 :=
  Host.reduceAdd (mulf (emitEntries a0 a1) (uitofp .f32 a2)) (constant S_ .f32 0x00000000#32) reducesTo_S64x8192_S64_d1 h_S_
/-- The transition row of each position but the last. -/
def transRows : FVec Ideal S64x8191x48 .f32 :=
  Host.gather gather_S48x48_S64x8191x1_S64x8191x48_2_0_n_n_0_2_148 a3 (broadcastInDim S64x8191x1 ![0, 1] bcast_S64x8191_S64x8191x1_0_1 (wrap S64x8191 bcast_S_S64x8191 48#32 (extractStridedSlice S64x8191 ![0, 0] a1 slices_S64x8192_S64x8191_0_0)))
/-- The transition entry of each step. -/
def transEntries : FVec Ideal S64x8191 .f32 :=
  shapeCast _ (Host.gather gather_S64x8191x48_S64x8191x1x1_S64x8191x1_n_2_01_01_2_3_111 (transRows a1 a3) (broadcastInDim S64x8191x1x1 ![0, 1, 2] bcast_S64x8191x1_S64x8191x1x1_0_1_2 (wrap S64x8191x1 bcast_S_S64x8191x1 48#32 (broadcastInDim S64x8191x1 ![0, 1] bcast_S64x8191_S64x8191x1_0_1 (extractStridedSlice S64x8191 ![0, 1] a1 slices_S64x8192_S64x8191_0_1))))) shapeCasts_S64x8191x1_S64x8191
/-- The transitions of each row, summed. -/
def transTerm : FVec Ideal S64 .f32 :=
  Host.reduceAdd (mulf (transEntries a1 a3) (extractStridedSlice S64x8191 ![0, 1] (uitofp .f32 a2 : FVec Ideal S64x8192 .f32) slices_S64x8192_S64x8191_0_1)) (constant S_ .f32 0x00000000#32) reducesTo_S64x8191_S64_d1 h_S_
/-- The position of each row's last word. -/
def lastPos : IVec S64x1 32 :=
  broadcastInDim S64x1 ![0] bcast_S64_S64x1_0 (subi (Host.reduce IntOp.addi (extui 32 a2 natLt_1_32) (constantI S_ 32 0#32) reducesTo_S64x8192_S64_d1 h_S_) (broadcastInDim S64 ![] bcast_S_S64 (constantI S_ 32 1#32)))
/-- The tag of each row's last word. -/
def lastTag : IVec S64 32 :=
  shapeCast _ (Host.gather gather_S64x8192_S64x1x1_S64x1_n_1_0_0_1_2_11 a1 (broadcastInDim S64x1x1 ![0, 1] bcast_S64x1_S64x1x1_0_1 (wrap S64x1 bcast_S_S64x1 8192#32 (lastPos a2)))) shapeCasts_S64x1_S64
/-- The end's entry at each row's last tag. -/
def endTerm : FVec Ideal S64 .f32 :=
  Host.gather gather_S48_S64x1_S64_n_0_n_n_0_1_1 a5 (broadcastInDim S64x1 ![0] bcast_S64_S64x1_0 (wrap S64 bcast_S_S64 48#32 (lastTag a1 a2)))

/-- The reference's result in its pieces. -/
theorem result_eq (s : State Ideal) : R_main_v92 s a0 a1 a2 a3 a4 a5 =
    shapeCast _ (subf (part s.main_v9_4 a5) (addf (addf (addf (startTerm a1 a4) (emitTerm a0 a1 a2)) (transTerm a1 a2 a3)) (endTerm a1 a2 a5))) shapeCasts_S64_S2x1x32 := rfl

/-- The second axis of a `64 x 48` array is reduced. -/
theorem redT : S64x48.Reduces [1] S64 := by decide
/-- The second axis of a `64 x 8192` array is reduced. -/
theorem redL : S64x8192.Reduces [1] S64 := by decide
/-- The second axis of a `64 x 8191` array is reduced. -/
theorem redS : S64x8191.Reduces [1] S64 := by decide
/-- Where a summand over the tags stands. -/
theorem liftT (b : Fin 64) (k : Fin 48) : redT.lift (ix1 b) k = ix2 b k := by
  funext a; apply Fin.ext; fin_cases a <;> rfl
/-- Where a summand over the positions stands. -/
theorem liftL (b : Fin 64) (k : Fin 8192) : redL.lift (ix1 b) k = ix2 b k := by
  funext a; apply Fin.ext; fin_cases a <;> rfl
/-- Where a summand over the steps stands. -/
theorem liftS (b : Fin 64) (k : Fin 8191) : redS.lift (ix1 b) k = ix2 b k := by
  funext a; apply Fin.ext; fin_cases a <;> rfl

/-- A final variable with the end's entry. -/
theorem finX_apply (b : Fin 64) (t : Fin 48) : finX al a5 (ix2 b t) = (al (ix2 b t) + a5 (ix1 t) : EReal) := by
  have e : broadcastInDim S64x48 ![0, 1] bcast_S1x48_S64x48_0_1 (broadcastInDim S1x48 ![1] bcast_S48_S1x48_1 a5) (ix2 b t) = a5 (ix1 t) := by
    rw [broadcastInDim_apply _ _ _ _ (ix2 (0 : Fin 1) t) (by intro a; fin_cases a <;> rfl)]
    exact broadcastInDim_apply _ _ _ _ _ (by intro a; fin_cases a <;> rfl)
  exact congrArg (fun z : EReal => (al (ix2 b t) : EReal) + z) e

/-- What is taken out of a row. -/
theorem finGuard_apply (b : Fin 64) : finGuard al a5 (ix2 b (0 : Fin 1)) = guard (top48 fun t => finX al a5 (ix2 b t)) := by
  have hm : finMax al a5 (ix2 b (0 : Fin 1)) = top48 fun t => finX al a5 (ix2 b t) := by
    unfold finMax
    rw [broadcastInDim_apply _ _ _ _ (ix1 b) (by intro a; fin_cases a <;> rfl)]
    have e := Host.reduce_eq_fold_single (α := EReal) (s := S64x48) (t := S64) (u := S_) (a := (1 : Fin 2)) (max : EReal → EReal → EReal) (finX al a5)
      (constant (F := Ideal) S_ .f32 0xFF800000#32) reducesTo_S64x48_S64_d1 redT h_S_ (ix1 b)
    have hl : ((finX al a5 : S64x48.Idx → EReal) ∘ redT.lift (ix1 b)) = fun k : Fin 48 => finX al a5 (ix2 b k) :=
      funext fun k => congrArg (finX al a5) (liftT b k)
    have hi : constant (F := Ideal) S_ .f32 0xFF800000#32 (Shape.Idx.first h_S_) = (⊥ : EReal) := bits_bot
    rw [hl, hi] at e
    exact e
  have h1 : broadcastInDim S64x1 ![] bcast_S_S64x1 (constant (F := Ideal) S_ .f32 0x7F800000#32) (ix2 b (0 : Fin 1)) = (⊤ : EReal) := bits_top
  have h2 : broadcastInDim S64x1 ![] bcast_S_S64x1 (id (constant (F := Ideal) S_ .f32 0x00000000#32)) (ix2 b (0 : Fin 1)) = (0 : EReal) := bits_zero
  show Scalar.select (FloatOps.cmpf .olt (FloatOps.hostAbsf (finMax al a5 (ix2 b (0 : Fin 1)))) (broadcastInDim S64x1 ![] bcast_S_S64x1 (constant (F := Ideal) S_ .f32 0x7F800000#32) (ix2 b (0 : Fin 1))))
    (finMax al a5 (ix2 b (0 : Fin 1))) (broadcastInDim S64x1 ![] bcast_S_S64x1 (id (constant (F := Ideal) S_ .f32 0x00000000#32)) (ix2 b (0 : Fin 1))) = _
  rw [hm, h1, h2]
  exact select_guard _

/-- The partition of a row. -/
theorem part_apply (b : Fin 64) : part al a5 (ix1 b) = lse fun t => (al (ix2 b t) + a5 (ix1 t) : EReal) := by
  have hg : shapeCast S64 (finGuard al a5) shapeCasts_S64x1_S64 (ix1 b) = guard (top48 fun t => finX al a5 (ix2 b t)) := by
    rw [shapeCast_apply _ _ _ (ix2 b (0 : Fin 1)) (by
      rw [Shape.rowMajor_val_two, Shape.rowMajor_val_one]; show b.val * 1 + 0 = b.val; omega)]
    exact finGuard_apply al a5 b
  have hb : ∀ k, broadcastInDim S64x48 ![0, 1] bcast_S64x1_S64x48_0_1 (finGuard al a5) (ix2 b k) = guard (top48 fun t => finX al a5 (ix2 b t)) := fun k => by
    rw [broadcastInDim_apply _ _ _ _ (ix2 b (0 : Fin 1)) (by intro a; fin_cases a <;> rfl)]
    exact finGuard_apply al a5 b
  have hs : Host.reduceAdd (Host.exp (subf (finX al a5) (broadcastInDim S64x48 ![0, 1] bcast_S64x1_S64x48_0_1 (finGuard al a5)))) (constant (F := Ideal) S_ .f32 0x00000000#32) reducesTo_S64x48_S64_d1 h_S_ (ix1 b)
      = ∑ k : Fin 48, Ideal.exp (finX al a5 (ix2 b k) - guard (top48 fun t => finX al a5 (ix2 b t)) : EReal) := by
    show Ideal.hostReduceAdd (axes := [1]) reducesTo_S64x48_S64_d1 (Host.exp (subf (finX al a5) (broadcastInDim S64x48 ![0, 1] bcast_S64x1_S64x48_0_1 (finGuard al a5)))) (FloatOps.ofBits (F := Ideal) .f32 0x00000000#32) (ix1 b) = _
    rw [Ideal.hostReduceAdd_single _ redT, bits_zero, zero_add]
    refine Finset.sum_congr rfl fun k _ => ?_
    rw [liftT b k]
    exact congrArg (fun z : EReal => Ideal.exp ((finX al a5 (ix2 b k) : EReal) - z)) (hb k)
  have e : part al a5 (ix1 b) = (Ideal.log (Host.reduceAdd (Host.exp (subf (finX al a5) (broadcastInDim S64x48 ![0, 1] bcast_S64x1_S64x48_0_1 (finGuard al a5)))) (constant (F := Ideal) S_ .f32 0x00000000#32) reducesTo_S64x48_S64_d1 h_S_ (ix1 b))
    + shapeCast S64 (finGuard al a5) shapeCasts_S64x1_S64 (ix1 b) : EReal) := rfl
  rw [e, hg, hs]
  simp only [finX_apply]
  rfl

variable (hT : ∀ b l, (a1 (ix2 b l)).toNat < 48)

/-- The tag at a position. -/
def tagAt (b : Fin 64) (l : Fin 8192) : Fin 48 := tagOf (a1 (ix2 b l))

include hT in
/-- The start's entry of a row. -/
theorem startTerm_apply (b : Fin 64) : startTerm a1 a4 (ix1 b) = a4 (ix1 (tagAt a1 b 0)) := by
  refine gather_one _ _ b (tagAt a1 b 0) ?_
  rw [broadcastInDim_apply _ _ _ _ (ix1 b) (by intro a; fin_cases a <;> rfl)]
  have e : shapeCast S64 (extractStridedSlice S64x1 ![0, 0] a1 slices_S64x8192_S64x1_0_0) shapeCasts_S64x1_S64 (ix1 b) = a1 (ix2 b (0 : Fin 8192)) := by
    rw [shapeCast_apply _ _ _ (ix2 b (0 : Fin 1)) (by
      rw [Shape.rowMajor_val_two, Shape.rowMajor_val_one]; show b.val * 1 + 0 = b.val; omega)]
    exact extractStridedSlice_apply _ _ _ _ _ (by intro a; fin_cases a <;> simp)
  have := hT b 0
  rw [wrap_apply _ _ _ _ _ (by rw [e]; omega), e, toInt_small _ (by omega)]
  exact (tagOf_val _ (hT b 0)).symm

include hT in
/-- A position's emission. -/
theorem emitEntries_apply (b : Fin 64) (l : Fin 8192) : emitEntries a0 a1 (ix2 b l) = a0 (ix3 b l (tagAt a1 b l)) := by
  unfold emitEntries
  rw [shapeCast_apply _ _ _ (ix3 b l (0 : Fin 1)) (by
    rw [Shape.rowMajor_val_three, Shape.rowMajor_val_two]; show (b.val * 8192 + l.val) * 1 + 0 = b.val * 8192 + l.val; omega)]
  refine gather_entry8192 _ _ b l (tagAt a1 b l) ?_
  rw [broadcastInDim_apply _ _ _ _ (ix3 b l (0 : Fin 1)) (by intro a; fin_cases a <;> rfl)]
  have e : broadcastInDim S64x8192x1 ![0, 1] bcast_S64x8192_S64x8192x1_0_1 a1 (ix3 b l (0 : Fin 1)) = a1 (ix2 b l) :=
    broadcastInDim_apply _ _ _ _ _ (by intro a; fin_cases a <;> rfl)
  have := hT b l
  rw [wrap_apply _ _ _ _ _ (by rw [e]; omega), e, toInt_small _ (by omega)]
  exact (tagOf_val _ (hT b l)).symm

include hT in
/-- The emissions of a row. -/
theorem emitTerm_apply (hM : ∀ b l, a2 (ix2 b l) = 1#1) (b : Fin 64) : emitTerm a0 a1 a2 (ix1 b) = ∑ l : Fin 8192, (a0 (ix3 b l (tagAt a1 b l)) : EReal) := by
  show Ideal.hostReduceAdd (axes := [1]) reducesTo_S64x8192_S64_d1 (mulf (emitEntries a0 a1) (uitofp .f32 a2)) (FloatOps.ofBits (F := Ideal) .f32 0x00000000#32) (ix1 b) = _
  rw [Ideal.hostReduceAdd_single _ redL, bits_zero, zero_add]
  refine Finset.sum_congr rfl fun (k : Fin 8192) _ => ?_
  rw [liftL b k]
  show (emitEntries a0 a1 (ix2 b k) * (((a2 (ix2 b k)).toNat : ℝ) : EReal) : EReal) = _
  rw [hM, emitEntries_apply a0 a1 hT]
  simp

include hT in
/-- A position's transition row. -/
theorem transRows_apply (b : Fin 64) (l : Fin 8191) (t : Fin 48) : transRows a1 a3 (ix3 b l t) = a3 (ix2 (tagAt a1 b l.castSucc) t) := by
  refine gather_rows _ _ b l t (tagAt a1 b l.castSucc) ?_
  rw [broadcastInDim_apply _ _ _ _ (ix2 b l) (by intro a; fin_cases a <;> rfl)]
  have e : extractStridedSlice S64x8191 ![0, 0] a1 slices_S64x8192_S64x8191_0_0 (ix2 b l) = a1 (ix2 b l.castSucc) :=
    extractStridedSlice_apply _ _ _ _ _ (by intro a; fin_cases a <;> simp)
  have := hT b l.castSucc
  rw [wrap_apply _ _ _ _ _ (by rw [e]; omega), e, toInt_small _ (by omega)]
  exact (tagOf_val _ (hT b l.castSucc)).symm

include hT in
/-- A step's transition. -/
theorem transEntries_apply (b : Fin 64) (l : Fin 8191) : transEntries a1 a3 (ix2 b l) = a3 (ix2 (tagAt a1 b l.castSucc) (tagAt a1 b l.succ)) := by
  unfold transEntries
  rw [shapeCast_apply _ _ _ (ix3 b l (0 : Fin 1)) (by
    rw [Shape.rowMajor_val_three, Shape.rowMajor_val_two]; show (b.val * 8191 + l.val) * 1 + 0 = b.val * 8191 + l.val; omega)]
  refine (gather_entry8191 _ _ b l (tagAt a1 b l.succ) ?_).trans (transRows_apply a1 a3 hT b l _)
  rw [broadcastInDim_apply _ _ _ _ (ix3 b l (0 : Fin 1)) (by intro a; fin_cases a <;> rfl)]
  have e : broadcastInDim S64x8191x1 ![0, 1] bcast_S64x8191_S64x8191x1_0_1 (extractStridedSlice S64x8191 ![0, 1] a1 slices_S64x8192_S64x8191_0_1) (ix3 b l (0 : Fin 1)) = a1 (ix2 b l.succ) := by
    rw [broadcastInDim_apply _ _ _ _ (ix2 b l) (by intro a; fin_cases a <;> rfl)]
    exact extractStridedSlice_apply _ _ _ _ _ (by
      intro a
      fin_cases a
      · simp
      · exact Nat.add_comm _ _)
  have := hT b l.succ
  rw [wrap_apply _ _ _ _ _ (by rw [e]; omega), e, toInt_small _ (by omega)]
  exact (tagOf_val _ (hT b l.succ)).symm

include hT in
/-- The transitions of a row. -/
theorem transTerm_apply (hM : ∀ b l, a2 (ix2 b l) = 1#1) (b : Fin 64) :
    transTerm a1 a2 a3 (ix1 b) = ∑ l : Fin 8191, (a3 (ix2 (tagAt a1 b l.castSucc) (tagAt a1 b l.succ)) : EReal) := by
  show Ideal.hostReduceAdd (axes := [1]) reducesTo_S64x8191_S64_d1 (mulf (transEntries a1 a3) (extractStridedSlice S64x8191 ![0, 1] (uitofp .f32 a2 : FVec Ideal S64x8192 .f32) slices_S64x8192_S64x8191_0_1)) (FloatOps.ofBits (F := Ideal) .f32 0x00000000#32) (ix1 b) = _
  rw [Ideal.hostReduceAdd_single _ redS, bits_zero, zero_add]
  refine Finset.sum_congr rfl fun (k : Fin 8191) _ => ?_
  rw [liftS b k]
  have e : extractStridedSlice S64x8191 ![0, 1] (uitofp .f32 a2 : FVec Ideal S64x8192 .f32) slices_S64x8192_S64x8191_0_1 (ix2 b k) = (1 : EReal) := by
    rw [extractStridedSlice_apply _ _ _ _ (ix2 b k.succ) (by
      intro a
      fin_cases a
      · simp
      · exact Nat.add_comm _ _)]
    show (((a2 (ix2 b k.succ)).toNat : ℝ) : EReal) = 1
    rw [hM]; simp
  show (transEntries a1 a3 (ix2 b k) * extractStridedSlice S64x8191 ![0, 1] (uitofp .f32 a2 : FVec Ideal S64x8192 .f32) slices_S64x8192_S64x8191_0_1 (ix2 b k) : EReal) = _
  rw [e, transEntries_apply a1 a3 hT]
  simp

/-- Ones added up. -/
theorem fold_ones {ι : Type} (s : Finset ι) : s.fold IntOp.addi (0#32) (fun _ => 1#32) = BitVec.ofNat 32 s.card := by
  classical
  induction s using Finset.induction_on with
  | empty => simp
  | insert a s ha ih =>
    rw [Finset.fold_insert ha, ih, Finset.card_insert_of_notMem ha]
    show 1#32 + BitVec.ofNat 32 s.card = BitVec.ofNat 32 (s.card + 1)
    rw [BitVec.add_comm, BitVec.ofNat_add]

/-- With every word kept the last position is the last. -/
theorem lastPos_apply (hM : ∀ b l, a2 (ix2 b l) = 1#1) (b : Fin 64) : lastPos a2 (ix2 b (0 : Fin 1)) = 8191#32 := by
  unfold lastPos
  rw [broadcastInDim_apply _ _ _ _ (ix1 b) (by intro a; fin_cases a <;> rfl)]
  have e := Host.reduce_eq_fold_single (α := BitVec 32) (s := S64x8192) (t := S64) (u := S_) (a := (1 : Fin 2)) (IntOp.addi : BitVec 32 → BitVec 32 → BitVec 32) (extui 32 a2 natLt_1_32)
      (constantI S_ 32 0#32) reducesTo_S64x8192_S64_d1 redL h_S_ (ix1 b)
  have hl : ((extui 32 a2 natLt_1_32 : S64x8192.Idx → BitVec 32) ∘ redL.lift (ix1 b)) = fun _ : Fin 8192 => 1#32 :=
    funext fun (k : Fin 8192) => by
      show (a2 (redL.lift (ix1 b) k)).setWidth 32 = 1#32
      rw [liftL b k, hM]; rfl
  have hi : constantI S_ 32 0#32 (Shape.Idx.first h_S_) = 0#32 := rfl
  have hf : (Finset.univ : Finset (Fin (S64x8192.size (1 : Fin 2)))).fold IntOp.addi (0#32) (fun _ => 1#32) = 8192#32 := by
    rw [fold_ones, Finset.card_fin]; rfl
  rw [hl, hi] at e
  show Host.reduce IntOp.addi (extui 32 a2 natLt_1_32) (constantI S_ 32 0#32) reducesTo_S64x8192_S64_d1 h_S_ (ix1 b) - 1#32 = 8191#32
  rw [e.trans hf]
  decide

include hT in
/-- The end's entry of a row. -/
theorem endTerm_apply (hM : ∀ b l, a2 (ix2 b l) = 1#1) (b : Fin 64) : endTerm a1 a2 a5 (ix1 b) = a5 (ix1 (tagAt a1 b 8191)) := by
  refine gather_one _ _ b (tagAt a1 b 8191) ?_
  rw [broadcastInDim_apply _ _ _ _ (ix1 b) (by intro a; fin_cases a <;> rfl)]
  have e : lastTag a1 a2 (ix1 b) = a1 (ix2 b (8191 : Fin 8192)) := by
    unfold lastTag
    rw [shapeCast_apply _ _ _ (ix2 b (0 : Fin 1)) (by
      rw [Shape.rowMajor_val_two, Shape.rowMajor_val_one]; show b.val * 1 + 0 = b.val; omega)]
    refine gather_last _ _ b 8191 ?_
    rw [broadcastInDim_apply _ _ _ _ (ix2 b (0 : Fin 1)) (by intro a; fin_cases a <;> rfl)]
    rw [wrap_apply _ _ _ _ _ (by rw [lastPos_apply a2 hM b]; decide), lastPos_apply a2 hM b]
    decide
  have := hT b 8191
  rw [wrap_apply _ _ _ _ _ (by rw [e]; omega), e, toInt_small _ (by omega)]
  exact (tagOf_val _ (hT b 8191)).symm

include hT in
/-- The reference's result at a row: the partition less the score. -/
theorem result_apply (hM : ∀ b l, a2 (ix2 b l) = 1#1) (s : State Ideal) (h : Fin 2) (b' : Fin 32) (b : Fin 64) (hb : b.val = 32 * h.val + b'.val) :
    R_main_v92 s a0 a1 a2 a3 a4 a5 (ix3 h (0 : Fin 1) b') =
      (lse (fun t => (s.main_v9_4 (ix2 b t) + a5 (ix1 t) : EReal))
        - (((a4 (ix1 (tagAt a1 b 0)) + ∑ l : Fin 8192, (a0 (ix3 b l (tagAt a1 b l)) : EReal))
          + ∑ l : Fin 8191, (a3 (ix2 (tagAt a1 b l.castSucc) (tagAt a1 b l.succ)) : EReal)) + a5 (ix1 (tagAt a1 b 8191))) : EReal) := by
  rw [result_eq, shapeCast_apply _ _ _ (ix1 b) (by
    rw [Shape.rowMajor_val_one, Shape.rowMajor_val_three]; show b.val = (h.val * 1 + 0) * 32 + b'.val; omega)]
  rw [← part_apply, ← startTerm_apply a1 a4 hT, ← emitTerm_apply a0 a1 a2 hT hM, ← transTerm_apply a1 a2 a3 hT hM, ← endTerm_apply a1 a2 a5 hT hM]
  rfl

end Pieces
end Cert.Crf
-- ==== Proof.KernelScore.lean ====
/- The score of one grid point at a row: the products with indicator vectors summed over the tags are table entries at the
   tags. -/
module
public import proofs.«01_k».proof.Proof.KernelStep
public import proofs.«01_k».proof.Proof.RefScore
@[expose] public section
noncomputable section
namespace Cert.Crf
open Idealize.ShloMosaic Idealize.ShloMosaic.ValueIdx Cert.KernelIdeal Cert.KernelIdeal.Gen

/-- The indicator of a tag. -/
def hot (x : BitVec 32) (t : Fin 48) : EReal := if x = BitVec.ofNat 32 t.val then 1 else 0

/-- The printed indicator. -/
theorem sitofp_eq (x y : BitVec 32) : FloatOps.sitofp (F := Ideal) .f32 ((IntOp.cmpi .eq x y).setWidth 32) = if x = y then (1 : EReal) else 0 := by
  rw [WordCmp.cmpi_eq_eq]
  by_cases h : x = y
  · rw [if_pos h, decide_eq_true h]
    show (((BitVec.setWidth 32 1#1).toInt : ℝ) : EReal) = 1
    rw [show (BitVec.setWidth 32 1#1).toInt = 1 by decide]; norm_num
  · rw [if_neg h, decide_eq_false h]
    show (((BitVec.setWidth 32 0#1).toInt : ℝ) : EReal) = 0
    rw [show (BitVec.setWidth 32 0#1).toInt = 0 by decide]; norm_num

/-- The indicator of a tag in range. -/
theorem hot_eq (x : BitVec 32) (hx : x.toNat < 48) (t : Fin 48) : hot x t = if t = tagOf x then 1 else 0 := by
  unfold hot
  refine if_congr ?_ rfl rfl
  constructor
  · intro h
    apply Fin.ext
    rw [tagOf_val x hx, h, BitVec.toNat_ofNat, Nat.mod_eq_of_lt (by omega)]
  · intro h
    apply BitVec.eq_of_toNat_eq
    rw [h, BitVec.toNat_ofNat, tagOf_val x hx, Nat.mod_eq_of_lt (by omega)]

/-- Summed against an indicator a table gives its entry. -/
theorem sum_hot (x : BitVec 32) (hx : x.toNat < 48) (y : Fin 48 → EReal) : ∑ t, y t * hot x t = y (tagOf x) := by
  rw [Finset.sum_eq_single (tagOf x)]
  · rw [hot_eq x hx, if_pos rfl, mul_one]
  · intro t _ h
    rw [hot_eq x hx, if_neg h, mul_zero]
  · intro h; exact absurd (Finset.mem_univ _) h

/-- The same with the indicator in front. -/
theorem hot_sum (x : BitVec 32) (hx : x.toNat < 48) (y : Fin 48 → EReal) : ∑ t, hot x t * y t = y (tagOf x) := by
  rw [← sum_hot x hx y]
  exact Finset.sum_congr rfl fun t _ => mul_comm _ _

/-- The word that stands for no tag has no indicator. -/
theorem hot_none (t : Fin 48) : hot 4294967295#32 t = 0 := if_neg fun h => by
  have := congrArg BitVec.toNat h
  rw [BitVec.toNat_ofNat, BitVec.toNat_ofNat, Nat.mod_eq_of_lt (by omega), Nat.mod_eq_of_lt (by omega)] at this
  omega

section Point
variable (x0 : Vec Ideal S512x32x48 .f32) (x1 : Vec Ideal S1x512x32 .i32) (x2 : Vec Ideal S48x48 .f32) (x3 x4 : Vec Ideal S1x48 .f32) (carry : Vec Ideal S1x32 .i32)
  (c0 c1 : BitVec 1)

/-- The tags of the block. -/
theorem pay20_apply (l : Fin 512) (b : Fin 32) : k0_pay20 x1 (ix2 l b) = x1 (ix3 (0 : Fin 1) l b) := by
  unfold k0_pay20
  exact shapeCast_apply _ _ _ _ (by
    rw [Shape.rowMajor_val_three, Shape.rowMajor_val_two]; show (0 * 512 + l.val) * 32 + b.val = l.val * 32 + b.val; omega)

/-- The printed indicator array of an array of tags. -/
def hots (y : IVec S512x32 32) : FVec Ideal S512x32x48 .f32 :=
  sitofp .f32 (extui 32 (cmpi .eq (broadcastTo S512x32x48 (shapeCast S512x32x1 y shapeCasts_S512x32_S512x32x1) broadcasts_S512x32x1_S512x32x48)
    (iota .tc S512x32x48 32 [2] iota_S512x32x48_d2_w32)) natLt_1_32)

/-- The printed indicator array at an index. -/
theorem hots_apply (y : IVec S512x32 32) (l : Fin 512) (b : Fin 32) (t : Fin 48) : hots y (ix3 l b t) = hot (y (ix2 l b)) t := by
  have e1 : broadcastTo S512x32x48 (shapeCast S512x32x1 y shapeCasts_S512x32_S512x32x1) broadcasts_S512x32x1_S512x32x48 (ix3 l b t) = y (ix2 l b) := by
    rw [broadcastTo_apply _ _ _ (ix3 l b (0 : Fin 1)) (by intro a; fin_cases a <;> rfl)]
    exact shapeCast_apply _ _ _ _ (by
      rw [Shape.rowMajor_val_three, Shape.rowMajor_val_two]; show l.val * 32 + b.val = (l.val * 32 + b.val) * 1 + 0; omega)
  have e2 : iota .tc S512x32x48 32 [2] iota_S512x32x48_d2_w32 (ix3 l b t) = BitVec.ofNat 32 t.val := by
    show BitVec.ofNat 32 (0 * 48 + t.val) = _
    rw [Nat.zero_mul, Nat.zero_add]
  show FloatOps.sitofp (F := Ideal) .f32 ((IntOp.cmpi .eq (broadcastTo S512x32x48 (shapeCast S512x32x1 y shapeCasts_S512x32_S512x32x1) broadcasts_S512x32x1_S512x32x48 (ix3 l b t))
    (iota .tc S512x32x48 32 [2] iota_S512x32x48_d2_w32 (ix3 l b t))).setWidth 32) = _
  rw [e1, e2]
  exact sitofp_eq _ _

/-- The indicators of the block's tags. -/
theorem pay21_apply (l : Fin 512) (b : Fin 32) (t : Fin 48) : k0_pay21 x1 (ix3 l b t) = hot (x1 (ix3 (0 : Fin 1) l b)) t := by
  show hots (k0_pay20 x1) (ix3 l b t) = _
  rw [hots_apply, pay20_apply]

/-- The tags one position earlier. -/
def prevs : IVec S512x32 32 :=
  concatenate S512x32 0 [⟨S1x32, Scalar.select c0 (broadcast S1x32 4294967295#32) carry⟩, ⟨S511x32, extractStridedSlice S511x32 ![0, 0] (k0_pay20 x1) slices_S512x32_o0_0_S511x32⟩] concatenates_S1x32_S511x32_S512x32_d0

/-- Before the block's first position stands the carried tag, or no tag. -/
theorem prevs_zero (b : Fin 32) : prevs x1 carry c0 (ix2 (0 : Fin 512) b) = Scalar.select c0 4294967295#32 (carry (ix2 (0 : Fin 1) b)) := by
  unfold prevs
  rw [concatenate_pair_apply_left (t := S512x32) (s₁ := S1x32) (s₂ := S511x32) 0 _ _ _ _ rfl (ix2 (0 : Fin 1) b) (by intro a; fin_cases a <;> rfl)]
  exact select_apply _ _ _ _

/-- Before any other position stands the tag there. -/
theorem prevs_succ (l : Fin 511) (b : Fin 32) : prevs x1 carry c0 (ix2 (l.succ : Fin 512) b) = x1 (ix3 (0 : Fin 1) l.castSucc b) := by
  unfold prevs
  rw [concatenate_pair_apply_right (t := S512x32) (s₁ := S1x32) (s₂ := S511x32) 0 _ _ _ _ rfl rfl (ix2 l b) (by intro a ha; fin_cases a <;> first | rfl | exact absurd rfl ha) (by rfl)]
  rw [extractStridedSlice_apply _ _ _ _ (ix2 (l.castSucc : Fin 512) b) (by intro a; fin_cases a <;> simp)]
  exact pay20_apply x1 _ _

/-- The transition rows at the earlier tags. -/
def prevRows : FVec Ideal S512x32x48 .f32 :=
  shapeCast S512x32x48 (matmul (φ₁ := .f32) (φ₂ := .f32) dot_S16384x48_S48x48_S16384x48_1_0_0_1_n_n none (shapeCast S16384x48 (hots (prevs x1 carry c0)) shapeCasts_S512x32x48_S16384x48) x2
    (constant (F := Ideal) S16384x48 .f32 0x00000000#32)) shapeCasts_S16384x48_S512x32x48

/-- The transition rows at an index. -/
theorem prevRows_apply (l : Fin 512) (b : Fin 32) (t : Fin 48) : prevRows x1 x2 carry c0 (ix3 l b t) = ∑ k : Fin 48, hot (prevs x1 carry c0 (ix2 l b)) k * (x2 (ix2 k t) : EReal) := by
  have hR : l.val * 32 + b.val < 16384 := by omega
  unfold prevRows
  rw [shapeCast_apply _ _ _ (ix2 (⟨l.val * 32 + b.val, hR⟩ : Fin 16384) t) (by
    rw [Shape.rowMajor_val_three, Shape.rowMajor_val_two]; rfl)]
  refine (Ideal.matmul_plain_apply (φ₁ := .f32) (φ₂ := .f32) (M := 16384) (K := 48) (N := 48) none _ x2 _ _ t).trans ?_
  have hz : constant (F := Ideal) S16384x48 .f32 0x00000000#32 (ix2 (⟨l.val * 32 + b.val, hR⟩ : Fin 16384) t) = (0 : EReal) := bits_zero
  rw [hz, zero_add]
  refine Finset.sum_congr rfl fun k _ => ?_
  refine congrArg (fun z : EReal => z * (x2 (ix2 k t) : EReal)) ?_
  rw [shapeCast_apply _ _ _ (ix3 l b k) (by
    rw [Shape.rowMajor_val_three, Shape.rowMajor_val_two]; rfl)]
  exact hots_apply _ _ _ _

/-- Where a summand over the block's positions stands. -/
theorem liftB (h : S512x32x48.Reduces [0] S32x48) (b : Fin 32) (t : Fin 48) (l : Fin 512) : h.lift (ix2 b t) l = ix3 l b t := by
  funext a; apply Fin.ext; fin_cases a <;> rfl

/-- The entry of a row vector at the block's position `l`, per tag. -/
theorem edge_apply (x5 : Vec Ideal S1x48 .f32) (l : Fin 512) (e : FVec Ideal S1x32x48 .f32) (b : Fin 32) (t : Fin 48) (he : e (ix3 (0 : Fin 1) b t) = hot (x1 (ix3 (0 : Fin 1) l b)) t) :
    mulf (shapeCast S32x48 e shapeCasts_S1x32x48_S32x48) (broadcastTo S32x48 x5 broadcasts_S1x48_S32x48) (ix2 b t) = (hot (x1 (ix3 (0 : Fin 1) l b)) t * x5 (ix2 (0 : Fin 1) t) : EReal) := by
  refine congrArg₂ (fun x y : EReal => x * y) ?_ ?_
  · rw [shapeCast_apply _ _ _ (ix3 (0 : Fin 1) b t) (by
      rw [Shape.rowMajor_val_three, Shape.rowMajor_val_two]; show (0 * 32 + b.val) * 48 + t.val = b.val * 48 + t.val; omega)]
    exact he
  · exact broadcastTo_apply _ _ _ _ (by intro a; fin_cases a <;> rfl)

/-- The start, emission and transition part of the block's score, per tag. -/
theorem pay22_apply (b : Fin 32) (t : Fin 48) : k0_pay22 c0 x2 (k0_pay4 x3) x1 x0 carry (ix2 b t) =
    ((∑ l : Fin 512, (x0 (ix3 l b t) : EReal) * hot (x1 (ix3 (0 : Fin 1) l b)) t)
      + (∑ l : Fin 512, (prevRows x1 x2 carry c0 (ix3 l b t) : EReal) * hot (x1 (ix3 (0 : Fin 1) l b)) t)
      + Scalar.select c0 (hot (x1 (ix3 (0 : Fin 1) (0 : Fin 512) b)) t * x3 (ix2 (0 : Fin 1) t)) 0 : EReal) := by
  have e4 : k0_pay4 x3 = x3 := by
    unfold k0_pay4
    exact shapeCast_self _ _
  have e1 : multiReduction .add [0] S32x48 (mulf (shapeCast S512x32x48 x0 shapeCasts_S512x32x48_S512x32x48) (k0_pay21 x1)) 0x00000000#32 reduces_S512x32x48_S32x48 (.inl rfl) rfl (ix2 b t)
      = ∑ l : Fin 512, (x0 (ix3 l b t) : EReal) * hot (x1 (ix3 (0 : Fin 1) l b)) t := by
    refine (Ideal.multiReduction_add_single _ _ reduces_S512x32x48_S32x48 _ _ (ix2 b t)).trans ?_
    refine Finset.sum_congr rfl fun (l : Fin 512) _ => ?_
    rw [liftB reduces_S512x32x48_S32x48 b t l, shapeCast_self]
    exact congrArg (fun z : EReal => (x0 (ix3 l b t) : EReal) * z) (pay21_apply x1 l b t)
  have e2 : multiReduction .add [0] S32x48 (mulf (prevRows x1 x2 carry c0) (k0_pay21 x1)) 0x00000000#32 reduces_S512x32x48_S32x48 (.inl rfl) rfl (ix2 b t)
      = ∑ l : Fin 512, (prevRows x1 x2 carry c0 (ix3 l b t) : EReal) * hot (x1 (ix3 (0 : Fin 1) l b)) t := by
    refine (Ideal.multiReduction_add_single _ _ reduces_S512x32x48_S32x48 _ _ (ix2 b t)).trans ?_
    refine Finset.sum_congr rfl fun (l : Fin 512) _ => ?_
    rw [liftB reduces_S512x32x48_S32x48 b t l]
    exact congrArg (fun z : EReal => (prevRows x1 x2 carry c0 (ix3 l b t) : EReal) * z) (pay21_apply x1 l b t)
  have e3 : Scalar.select c0 (mulf (shapeCast S32x48 (extractStridedSlice S1x32x48 ![0, 0, 0] (k0_pay21 x1) slices_S512x32x48_o0_0_0_S1x32x48) shapeCasts_S1x32x48_S32x48) (broadcastTo S32x48 x3 broadcasts_S1x48_S32x48))
      (broadcast S32x48 (Scalar.ofBits (F := Ideal) .f32 0x00000000#32)) (ix2 b t) = Scalar.select c0 (hot (x1 (ix3 (0 : Fin 1) (0 : Fin 512) b)) t * x3 (ix2 (0 : Fin 1) t) : EReal) (0 : EReal) := by
    refine (select_apply _ _ _ _).trans (congrArg₂ (Scalar.select c0) ?_ bits_zero)
    refine edge_apply x1 x3 0 _ b t ?_
    rw [extractStridedSlice_apply _ _ _ _ (ix3 (0 : Fin 512) b t) (by intro a; fin_cases a <;> simp)]
    exact pay21_apply x1 _ _ _
  rw [e4, ← e1, ← e2, ← e3]
  rfl

/-- The end part of the block's score, per tag. -/
theorem pay23_apply (b : Fin 32) (t : Fin 48) : k0_pay23 c1 (k0_pay5 x4) x1 (ix2 b t) =
    Scalar.select c1 (hot (x1 (ix3 (0 : Fin 1) (511 : Fin 512) b)) t * x4 (ix2 (0 : Fin 1) t) : EReal) (0 : EReal) := by
  have e4 : k0_pay5 x4 = x4 := by
    unfold k0_pay5
    exact shapeCast_self _ _
  rw [e4]
  unfold k0_pay23
  refine (select_apply _ _ _ _).trans (congrArg₂ (Scalar.select c1) ?_ bits_zero)
  refine edge_apply x1 x4 511 _ b t ?_
  rw [extractStridedSlice_apply _ _ _ _ (ix3 (511 : Fin 512) b t) (by intro a; fin_cases a <;> simp)]
  exact pay21_apply x1 _ _ _

/-- A choice of a sum. -/
theorem select_sum (c : BitVec 1) (f : Fin 48 → EReal) : ∑ t, Scalar.select c (f t) 0 = Scalar.select c (∑ t, f t) 0 := by
  unfold Scalar.select; split
  · rfl
  · simp

/-- What a point adds to a row's score, summed over the tags. -/
theorem accNext_sum (i : grid0.Coords) (acc : Vec Ideal S32x48 .f32) (b : Fin 32) (hT : ∀ l : Fin 512, (x1 (ix3 (0 : Fin 1) l b)).toNat < 48) :
    ∑ t, (accNext i x0 x1 x2 x3 x4 acc carry (ix2 b t) : EReal) = (∑ t, (acc (ix2 b t) : EReal)) +
      (((∑ l : Fin 512, (x0 (ix3 l b (tagOf (x1 (ix3 (0 : Fin 1) l b)))) : EReal))
        + (∑ l : Fin 512, ∑ k : Fin 48, hot (prevs x1 carry (isFirst i) (ix2 l b)) k * (x2 (ix2 k (tagOf (x1 (ix3 (0 : Fin 1) l b)))) : EReal))
        + Scalar.select (isFirst i) (x3 (ix2 (0 : Fin 1) (tagOf (x1 (ix3 (0 : Fin 1) (0 : Fin 512) b)))) : EReal) 0)
      + Scalar.select (isLast i) (x4 (ix2 (0 : Fin 1) (tagOf (x1 (ix3 (0 : Fin 1) (511 : Fin 512) b)))) : EReal) 0) := by
  have h : ∀ t, accNext i x0 x1 x2 x3 x4 acc carry (ix2 b t) = (acc (ix2 b t) + (k0_pay22 (isFirst i) x2 (k0_pay4 x3) x1 x0 carry (ix2 b t) + k0_pay23 (isLast i) (k0_pay5 x4) x1 (ix2 b t)) : EReal) := fun t => by
    unfold accNext k0_pay1
    rw [shapeCast_self]
    rfl
  have h1 : ∑ t, ∑ l : Fin 512, (x0 (ix3 l b t) : EReal) * hot (x1 (ix3 (0 : Fin 1) l b)) t = ∑ l : Fin 512, (x0 (ix3 l b (tagOf (x1 (ix3 (0 : Fin 1) l b)))) : EReal) := by
    rw [Finset.sum_comm]
    exact Finset.sum_congr rfl fun l _ => sum_hot _ (hT l) fun t => x0 (ix3 l b t)
  have h2 : ∑ t, ∑ l : Fin 512, (prevRows x1 x2 carry (isFirst i) (ix3 l b t) : EReal) * hot (x1 (ix3 (0 : Fin 1) l b)) t
      = ∑ l : Fin 512, ∑ k : Fin 48, hot (prevs x1 carry (isFirst i) (ix2 l b)) k * (x2 (ix2 k (tagOf (x1 (ix3 (0 : Fin 1) l b)))) : EReal) := by
    rw [Finset.sum_comm]
    exact Finset.sum_congr rfl fun l _ => (sum_hot _ (hT l) fun t => prevRows x1 x2 carry (isFirst i) (ix3 l b t)).trans (prevRows_apply _ _ _ _ _ _ _)
  have h3 : ∀ (l : Fin 512) (y : Fin 48 → EReal), ∑ t, hot (x1 (ix3 (0 : Fin 1) l b)) t * y t = y (tagOf (x1 (ix3 (0 : Fin 1) l b))) := fun l y => hot_sum _ (hT l) y
  simp only [h, pay22_apply, pay23_apply, Finset.sum_add_distrib, select_sum]
  rw [h1, h2, h3 0 fun t => x3 (ix2 (0 : Fin 1) t), h3 511 fun t => x4 (ix2 (0 : Fin 1) t)]

/-- The last tag a point hands on. -/
theorem pay2_apply (b : Fin 32) : k0_pay2 (k0_pay20 x1) (ix2 (0 : Fin 1) b) = x1 (ix3 (0 : Fin 1) (511 : Fin 512) b) := by
  unfold k0_pay2
  rw [shapeCast_self]
  rw [extractStridedSlice_apply _ _ _ _ (ix2 (511 : Fin 512) b) (by intro a; fin_cases a <;> simp)]
  exact pay20_apply x1 _ _

/-- Where a summand over the tags stands. -/
theorem liftK (h : S32x48.Reduces [1] S32) (b : Fin 32) (t : Fin 48) : h.lift (ix1 b) t = ix2 b t := by
  funext a; apply Fin.ext; fin_cases a <;> rfl

/-- The result a last point writes at a row. -/
theorem pay3_apply (u : Vec Ideal S32x48 .f32) (M : Vec Ideal S32x1 .f32) (acc : Vec Ideal S32x48 .f32) (b : Fin 32) :
    k0_pay3 (k0_pay5 x4) u M acc (ix3 (0 : Fin 1) (0 : Fin 1) b) = ((M (ix2 b (0 : Fin 1)) + Ideal.log (∑ t, (u (ix2 b t) : EReal) * Ideal.exp (x4 (ix2 (0 : Fin 1) t)))) - ∑ t, (acc (ix2 b t) : EReal) : EReal) := by
  have e4 : k0_pay5 x4 = x4 := by
    unfold k0_pay5
    exact shapeCast_self _ _
  have eM : shapeCast S32 M shapeCasts_S32x1_S32 (ix1 b) = M (ix2 b (0 : Fin 1)) := shapeCast_apply _ _ _ _ (by
    rw [Shape.rowMajor_val_two, Shape.rowMajor_val_one]; show b.val * 1 + 0 = b.val; omega)
  have e1 : multiReduction (F := Ideal) (φ := .f32) .add [1] S32 (mulf (F := Ideal) (φ := .f32) u (broadcastTo S32x48 (exp (φ := .f32) x4) broadcasts_S1x48_S32x48)) 0x00000000#32 reduces_S32x48_S32 (.inl rfl) rfl (ix1 b)
      = ∑ t, (u (ix2 b t) : EReal) * Ideal.exp (x4 (ix2 (0 : Fin 1) t)) := by
    refine (Ideal.multiReduction_add_single _ _ reduces_S32x48_S32 _ _ (ix1 b)).trans ?_
    refine Finset.sum_congr rfl fun (t : Fin 48) _ => ?_
    rw [liftK reduces_S32x48_S32 b t]
    refine congrArg (fun z : EReal => (u (ix2 b t) : EReal) * z) ?_
    exact broadcastTo_apply _ _ _ _ (by intro a; fin_cases a <;> rfl)
  have e2 : multiReduction (F := Ideal) (φ := .f32) .add [1] S32 acc 0x00000000#32 reduces_S32x48_S32 (.inl rfl) rfl (ix1 b) = ∑ t, (acc (ix2 b t) : EReal) := by
    refine (Ideal.multiReduction_add_single _ _ reduces_S32x48_S32 _ _ (ix1 b)).trans ?_
    exact Finset.sum_congr rfl fun (t : Fin 48) _ => by rw [liftK reduces_S32x48_S32 b t]
  rw [e4]
  unfold k0_pay3
  dsimp only
  rw [shapeCast_apply _ _ _ (ix1 b) (by
    rw [Shape.rowMajor_val_three, Shape.rowMajor_val_one]; show b.val = (0 * 1 + 0) * 32 + b.val; omega)]
  rw [← e1, ← e2, ← eM]
  rfl

end Point
end Cert.Crf
-- ==== Proof.PathScore.lean ====
/- The score of the given path of one batch row, and what one grid point adds to it. -/
module
public import proofs.«01_k».proof.Proof.KernelScore
@[expose] public section
noncomputable section
namespace Cert.Crf
open Idealize.ShloMosaic Idealize.ShloMosaic.ValueIdx Cert.KernelIdeal Cert.KernelIdeal.Gen

section Path
variable (E : ℕ → Fin 48 → ℝ) (A : Fin 48 → Fin 48 → ℝ) (S : Fin 48 → ℝ) (T : ℕ → Fin 48)

/-- The score of entering position `n` of the path: the start score, or the transition from the position before. -/
def enter : ℕ → ℝ
  | 0 => S (T 0)
  | n + 1 => A (T n) (T (n + 1))

/-- What position `n` of the path scores: its emission and its entry. -/
def piece (n : ℕ) : EReal := ((E n (T n) : ℝ) : EReal) + ((enter A S T n : ℝ) : EReal)

end Path

/-- A tag's word names the tag. -/
theorem tagOf_eq (x : BitVec 32) (k : Fin 48) (h : x.toNat = k.val) : tagOf x = k :=
  Fin.ext (by rw [tagOf_val x (by rw [h]; exact k.isLt), h])

/-- The one-hot row of a tag's word picks the tag's entry. -/
theorem hot_pick (x : BitVec 32) (k : Fin 48) (h : x.toNat = k.val) (y : Fin 48 → EReal) : ∑ t, hot x t * y t = y k := by
  rw [hot_sum x (by rw [h]; exact k.isLt), tagOf_eq x k h]

section Step
variable (i : grid0.Coords) (x0 : Vec Ideal S512x32x48 .f32) (x1 : Vec Ideal S1x512x32 .i32) (x2 : Vec Ideal S48x48 .f32) (x3 x4 : Vec Ideal S1x48 .f32)
  (carry : Vec Ideal S1x32 .i32) (b : Fin 32)
  (E : ℕ → Fin 48 → ℝ) (A : Fin 48 → Fin 48 → ℝ) (S : Fin 48 → ℝ) (T : ℕ → Fin 48) (p : ℕ)
  (hi : (i 1).val = p)
  (hE : ∀ (l : Fin 512) t, x0 (ix3 l b t) = ((E (512 * p + l.val) t : ℝ) : EReal))
  (hA : ∀ k t, x2 (ix2 k t) = ((A k t : ℝ) : EReal)) (hS : ∀ t, x3 (ix2 (0 : Fin 1) t) = ((S t : ℝ) : EReal))
  (hT : ∀ l : Fin 512, (x1 (ix3 (0 : Fin 1) l b)).toNat = (T (512 * p + l.val)).val)
  (hc : ∀ q, p = q + 1 → (carry (ix2 (0 : Fin 1) b)).toNat = (T (512 * q + 511)).val)

include hi hA hS hT hc in
/-- The entries of a point's positions: the transitions within the block, and the start score or the transition into the block. -/
theorem enter_sum : (∑ l : Fin 512, ∑ k : Fin 48, hot (prevs x1 carry (isFirst i) (ix2 l b)) k * (x2 (ix2 k (tagOf (x1 (ix3 (0 : Fin 1) l b)))) : EReal))
        + Scalar.select (isFirst i) (x3 (ix2 (0 : Fin 1) (tagOf (x1 (ix3 (0 : Fin 1) (0 : Fin 512) b)))) : EReal) 0
      = ∑ l : Fin 512, ((enter A S T (512 * p + l.val) : ℝ) : EReal) := by
  have hs : ∀ l : Fin 511, (∑ k : Fin 48, hot (prevs x1 carry (isFirst i) (ix2 l.succ b)) k * (x2 (ix2 k (tagOf (x1 (ix3 (0 : Fin 1) l.succ b)))) : EReal))
      = ((enter A S T (512 * p + l.succ.val) : ℝ) : EReal) := fun l => by
    rw [prevs_succ, hot_pick _ (T (512 * p + l.val)) (hT l.castSucc), hA, tagOf_eq _ _ (hT l.succ)]
    rfl
  rw [Fin.sum_univ_succ (n := 511), Fin.sum_univ_succ (n := 511), Finset.sum_congr rfl fun l _ => hs l]
  rw [add_right_comm]
  refine congrArg₂ (· + ·) ?_ rfl
  rw [prevs_zero, isFirst_eq, hi, tagOf_eq _ _ (hT 0)]
  cases p with
  | zero =>
    show (∑ k : Fin 48, hot 4294967295#32 k * _) + x3 (ix2 (0 : Fin 1) (T 0)) = ((S (T 0) : ℝ) : EReal)
    rw [Finset.sum_eq_zero fun k _ => by rw [hot_none, zero_mul], zero_add, hS]
  | succ q =>
    have e : BitVec.ofBool (decide (q + 1 = 0)) = 0#1 := by rw [decide_eq_false (Nat.succ_ne_zero q)]; rfl
    rw [e]
    show (∑ k : Fin 48, hot (carry (ix2 (0 : Fin 1) b)) k * _) + 0 = _
    rw [add_zero, hot_pick _ _ (hc q rfl), hA]
    have e2 : 512 * (q + 1) + (0 : Fin 512).val = (512 * q + 511) + 1 := by show 512 * (q + 1) + 0 = _; omega
    show _ = ((enter A S T (512 * (q + 1) + (0 : Fin 512).val) : ℝ) : EReal)
    rw [e2]
    rfl

include hi hE hA hS hT hc in
/-- What a point adds to a row's score. -/
theorem acc_step (acc : Vec Ideal S32x48 .f32) :
    ∑ t, (accNext i x0 x1 x2 x3 x4 acc carry (ix2 b t) : EReal) = (∑ t, (acc (ix2 b t) : EReal)) +
      ((∑ l ∈ Finset.range 512, piece E A S T (512 * p + l)) + if p = 15 then x4 (ix2 (0 : Fin 1) (T (512 * p + 511))) else 0) := by
  rw [accNext_sum x0 x1 x2 x3 x4 carry i acc b (fun l => by rw [hT]; exact (T _).isLt)]
  rw [add_assoc (∑ l : Fin 512, (x0 (ix3 l b (tagOf (x1 (ix3 (0 : Fin 1) l b)))) : EReal)), enter_sum i x1 x2 x3 carry b A S T p hi hA hS hT hc]
  refine congrArg₂ (· + ·) rfl (congrArg₂ (· + ·) ?_ ?_)
  · rw [Finset.sum_range, ← Finset.sum_add_distrib]
    refine Finset.sum_congr rfl fun (l : Fin 512) _ => ?_
    rw [tagOf_eq _ _ (hT l), hE]
    rfl
  · rw [isLast_eq, hi, tagOf_eq _ _ (hT 511)]
    by_cases h : p = 15
    · rw [if_pos h, decide_eq_true h]; rfl
    · rw [if_neg h, decide_eq_false h]; rfl

end Step
end Cert.Crf
-- ==== Proof.Points.lean ====
/- The kernel's grid points in order: what the points of one half of the batch leave stands for the forward variables and the
   score of the path, and the last point's result is the log partition minus the score. -/
module
public import proofs.«01_k».proof.Proof.Blocks
public import proofs.«01_k».proof.Proof.Fields
public import proofs.«01_k».proof.Proof.PathScore
@[expose] public section
noncomputable section
namespace Cert.Crf
open Idealize.SL.Sem Idealize.ShloMosaic Idealize.ShloMosaic.TcCoe Cert.KernelIdeal Cert.KernelIdeal.Gen Cert.KernelIdeal.Value

/-- The position of the sequence that place `l` of chunk `p` holds. -/
abbrev place (p : ℕ) (hp : p < 16) (l : Fin 512) : Fin 8192 := ⟨512 * p + l.val, by omega⟩

section
variable (E : ℕ → Fin 48 → ℝ) (A : Fin 48 → Fin 48 → ℝ) (S : Fin 48 → ℝ) (T : ℕ → Fin 48) (b : Fin 32)

/-- What a point leaves stands, at row `b`, for the forward variables and the path's score through chunk `p`. -/
def PointStands (p : ℕ) (a : Left) : Prop :=
  CarryStands E A S (512 * p + 511) (carryOf a) b ∧ (a.2.2.2.1 (ValueIdx.ix2 (0 : Fin 1) b)).toNat = (T (512 * p + 511)).val
    ∧ ∑ t, (a.2.2.1 (ValueIdx.ix2 b t) : EReal) = ∑ l ∈ Finset.range (512 * (p + 1)), piece E A S T l

variable (m : (ℓ : Loc nD τ sig) → Buf (Elt Ideal) ℓ) (c : Dev nD) (h : ℕ) (gb : Fin 64) (hb : gb.val = 32 * h + b.val)
  (hE : ∀ (l : Fin 8192) (t : Fin 48), m ((c : Thread nD τ).loc main_arg0) (ValueIdx.ix3 gb l t) = ((E l.val t : ℝ) : EReal))
  (hA : ∀ k t : Fin 48, m ((c : Thread nD τ).loc main_arg3) (ValueIdx.ix2 k t) = ((A k t : ℝ) : EReal))
  (hS : ∀ t : Fin 48, m ((c : Thread nD τ).loc main_arg4) (ValueIdx.ix1 t) = ((S t : ℝ) : EReal))
  (hT : ∀ l : Fin 8192, (m ((c : Thread nD τ).loc main_arg1) (ValueIdx.ix2 gb l)).toNat = (T l.val).val)

include hb hE in
/-- A point's emissions at the row. -/
theorem emissions_at (t : Fin cfg0.N) (ht : t.val / 16 = h) (l : Fin 512) (k : Fin 48) :
    iblk m c 0 t (ValueIdx.ix3 l b k) = ((E (512 * (t.val % 16) + l.val) k : ℝ) : EReal) := by
  have hp : t.val % 16 < 16 := Nat.mod_lt _ (by decide)
  rw [iblk0_apply m c t l b k gb (place _ hp l) (by rw [ht]; exact hb) rfl]
  exact hE _ _

include hb hT in
/-- A point's tags at the row. -/
theorem tags_at (t : Fin cfg0.N) (ht : t.val / 16 = h) (l : Fin 512) :
    (iblk m c 1 t (ValueIdx.ix3 (0 : Fin 1) l b)).toNat = (T (512 * (t.val % 16) + l.val)).val := by
  have hp : t.val % 16 < 16 := Nat.mod_lt _ (by decide)
  have e := iblk1_apply m c t l b gb (place _ hp l) (by rw [ht]; exact hb) rfl
  exact (congrArg BitVec.toNat e).trans (hT _)

include hb hE hA hS hT

/-- The score after a point, from what the point before left. -/
theorem scored_sum (t : Fin cfg0.N) (ht : t.val / 16 = h) (p : ℕ) (hp : t.val % 16 = p) (s : Vec Ideal S32x48 .f32) (prev : Vec Ideal S1x32 .i32)
    (hc : ∀ q, p = q + 1 → (prev (ValueIdx.ix2 (0 : Fin 1) b)).toNat = (T (512 * q + 511)).val)
    (hs : ∑ t, (s (ValueIdx.ix2 b t) : EReal) = ∑ l ∈ Finset.range (512 * p), piece E A S T l) :
    ∑ k, (scored m c t s prev (ValueIdx.ix2 b k) : EReal) = (∑ l ∈ Finset.range (512 * (p + 1)), piece E A S T l)
      + if p = 15 then m ((c : Thread nD τ).loc main_arg5) (ValueIdx.ix1 (T (512 * p + 511))) else (0 : EReal) := by
  have e := acc_step (grid0.coords t) (iblk m c 0 t) (iblk m c 1 t) (iblk m c 2 t) (iblk m c 3 t) (iblk m c 4 t) prev b E A S T p
    ((chunk_val t).trans hp) (fun l k => by rw [← hp]; exact emissions_at E b m c h gb hb hE t ht l k)
    (fun k j => (iblk2_apply m c t k j).trans (hA k j)) (fun k => (iblk3_apply m c t k).trans (hS k))
    (fun l => by rw [← hp]; exact tags_at T b m c h gb hb hT t ht l) hc s
  rw [hs, iblk4_apply] at e
  rw [Nat.mul_succ, Finset.sum_range_add, add_assoc]
  exact e

/-- The first point of a half. -/
theorem point_first (t : Fin cfg0.N) (ht : t.val / 16 = h) (hp : t.val % 16 = 0) (acc : Left) :
    PointStands E A S T b 0 (stAt0 m c t.val t.isLt acc) := by
  have h1 : ¬ t.val % 16 = 15 := by omega
  refine ⟨?_, ?_, ?_⟩
  · unfold carryOf
    rw [weights_A m c t acc hp h1, scale_A m c t acc hp h1, logScale_A m c t acc hp h1, exponent_A m c t acc hp h1]
    have e := sweep_first (grid0.coords t) (iblk m c 0 t) (iblk m c 2 t) (iblk m c 3 t) b E A S
      (fun l k => by rw [chunk_val t]; exact emissions_at E b m c h gb hb hE t ht l k)
      (fun k j => (iblk2_apply m c t k j).trans (hA k j)) (fun k => (iblk3_apply m c t k).trans (hS k))
      ((chunk_val t).trans hp) (k0_pay6 (F := Ideal), k0_pay9 (F := Ideal), k0_pay10 (F := Ideal), k0_pay11 (F := Ideal)) 511 (by omega)
    unfold swept
    rw [trips_eq]
    exact e
  · rw [tags_A m c t acc hp h1, pay2_apply]
    have e := tags_at T b m c h gb hb hT t ht 511
    rw [hp] at e
    exact e
  · rw [score_A m c t acc hp h1]
    have e := scored_sum E A S T b m c h gb hb hE hA hS hT t ht 0 hp (k0_pay7 (F := Ideal)) k0_pay8
      (fun q hq => absurd hq (Nat.succ_ne_zero q).symm)
      (Finset.sum_eq_zero fun k _ => by
        show k0_pay7 (F := Ideal) (ValueIdx.ix2 b k) = (0 : EReal)
        unfold k0_pay7
        rw [shapeCast_self]
        exact bits_zero)
    rw [if_neg (by decide), add_zero] at e
    exact e

/-- The loop of a later point. -/
theorem swept_stands (t : Fin cfg0.N) (ht : t.val / 16 = h) (q : ℕ) (hp : t.val % 16 = q + 1) (acc : Left) (ha : PointStands E A S T b q acc) :
    CarryStands E A S (512 * (q + 1) + 511) (swept m c t (carryOf acc)) b := by
  have e := sweep_next (grid0.coords t) (iblk m c 0 t) (iblk m c 2 t) (iblk m c 3 t) b E A S
    (fun l k => by rw [chunk_val t]; exact emissions_at E b m c h gb hb hE t ht l k)
    (fun k j => (iblk2_apply m c t k j).trans (hA k j)) (fun k => (iblk3_apply m c t k).trans (hS k))
    q ((chunk_val t).trans hp) (carryOf acc) ha.1 512 (le_refl _)
  rw [show 512 * q + 511 + 512 = 512 * (q + 1) + 511 by omega] at e
  unfold swept
  rw [trips_eq]
  exact e

/-- A middle point of a half. -/
theorem point_next (t : Fin cfg0.N) (ht : t.val / 16 = h) (q : ℕ) (hp : t.val % 16 = q + 1) (hq : q + 1 < 15) (acc : Left) (ha : PointStands E A S T b q acc) :
    PointStands E A S T b (q + 1) (stAt0 m c t.val t.isLt acc) := by
  have h0 : ¬ t.val % 16 = 0 := by omega
  have h1 : ¬ t.val % 16 = 15 := by omega
  refine ⟨?_, ?_, ?_⟩
  · unfold carryOf
    rw [weights_B m c t acc h0 h1, scale_B m c t acc h0 h1, logScale_B m c t acc h0 h1, exponent_B m c t acc h0 h1]
    exact swept_stands E A S T b m c h gb hb hE hA hS hT t ht q hp acc ha
  · rw [tags_B m c t acc h0 h1, pay2_apply]
    have e := tags_at T b m c h gb hb hT t ht 511
    rw [hp] at e
    exact e
  · rw [score_B m c t acc h0 h1]
    have e := scored_sum E A S T b m c h gb hb hE hA hS hT t ht (q + 1) hp acc.2.2.1 acc.2.2.2.1
      (fun q' hq' => by obtain rfl : q = q' := by omega
                        exact ha.2.1) ha.2.2
    rw [if_neg (by omega), add_zero] at e
    exact e

/-- The last point of a half: the log partition minus the score. -/
theorem point_last (t : Fin cfg0.N) (ht : t.val / 16 = h) (hp : t.val % 16 = 15) (acc : Left) (ha : PointStands E A S T b 14 acc) :
    (stAt0 m c t.val t.isLt acc).1 (ValueIdx.ix3 (0 : Fin 1) (0 : Fin 1) b)
      = lse (fun k => ((alpha E A S 8191 k : ℝ) : EReal) + m ((c : Thread nD τ).loc main_arg5) (ValueIdx.ix1 k))
        - ((∑ l ∈ Finset.range 8192, piece E A S T l) + m ((c : Thread nD τ).loc main_arg5) (ValueIdx.ix1 (T 8191))) := by
  have h0 : ¬ t.val % 16 = 0 := by omega
  rw [result_C m c t acc h0 hp]
  have e := scored_sum E A S T b m c h gb hb hE hA hS hT t ht 15 hp acc.2.2.1 acc.2.2.2.1
      (fun q' hq' => by obtain rfl : 14 = q' := by omega
                        exact ha.2.1) ha.2.2
  have es := swept_stands E A S T b m c h gb hb hE hA hS hT t ht 14 hp acc ha
  have el := stands_lse E A S 8191 _ _ _ _ es (fun k => m ((c : Thread nD τ).loc main_arg5) (ValueIdx.ix1 k))
  refine (pay3_apply _ _ _ _ b).trans ?_
  rw [e, if_pos rfl, ← el]
  refine congrArg₂ (· - ·) (congrArg₂ (· + ·) rfl (congrArg Ideal.log (Finset.sum_congr rfl fun k _ => ?_))) rfl
  rw [iblk4_apply]

end
end Cert.Crf
-- ==== Proof.Result.lean ====
/- The array the kernel returns, at an index: the log partition of a row minus the score of its path. -/
module
public import proofs.«01_k».proof.Proof.Points
@[expose] public section
noncomputable section
namespace Cert.Crf
open Idealize.SL.Sem Idealize.ShloMosaic Idealize.ShloMosaic.TcCoe Cert.KernelIdeal Cert.KernelIdeal.Gen Cert.KernelIdeal.Value

section
variable (E : ℕ → Fin 48 → ℝ) (A : Fin 48 → Fin 48 → ℝ) (S : Fin 48 → ℝ) (T : ℕ → Fin 48) (b : Fin 32)
  (m : (ℓ : Loc nD τ sig) → Buf (Elt Ideal) ℓ) (c : Dev nD)

/-- What the points up to point `n` leave. -/
abbrev leftAt (n : ℕ) (hn : 0 + n < cfg0.N) : Left := Pipeline.accAt (fun n h => stAt0 m c n h junk0) (stAt0 m c) 0 n hn

/-- What the points leave is the last point's work on something. -/
theorem leftAt_ex : ∀ (n : ℕ) (hn : 0 + n < cfg0.N), ∃ acc : Left, leftAt m c n hn = stAt0 m c (0 + n) hn acc
  | 0, _ => ⟨junk0, rfl⟩
  | _ + 1, _ => ⟨_, rfl⟩

variable (h : ℕ) (gb : Fin 64) (hb : gb.val = 32 * h + b.val)
  (hE : ∀ (l : Fin 8192) (t : Fin 48), m ((c : Thread nD τ).loc main_arg0) (ValueIdx.ix3 gb l t) = ((E l.val t : ℝ) : EReal))
  (hA : ∀ k t : Fin 48, m ((c : Thread nD τ).loc main_arg3) (ValueIdx.ix2 k t) = ((A k t : ℝ) : EReal))
  (hS : ∀ t : Fin 48, m ((c : Thread nD τ).loc main_arg4) (ValueIdx.ix1 t) = ((S t : ℝ) : EReal))
  (hT : ∀ l : Fin 8192, (m ((c : Thread nD τ).loc main_arg1) (ValueIdx.ix2 gb l)).toNat = (T l.val).val)
include hb hE hA hS hT

/-- The points of a half, in order. -/
theorem left_stands : ∀ (p : ℕ), p < 15 → ∀ hn : 0 + (16 * h + p) < cfg0.N, PointStands E A S T b p (leftAt m c (16 * h + p) hn)
  | 0, _, hn => by
    obtain ⟨acc, e⟩ := leftAt_ex m c (16 * h + 0) hn
    rw [e]
    exact point_first E A S T b m c h gb hb hE hA hS hT ⟨0 + (16 * h + 0), hn⟩ (by show (0 + (16 * h + 0)) / 16 = h; omega) (by show (0 + (16 * h + 0)) % 16 = 0; omega) acc
  | p + 1, hp, hn =>
    point_next E A S T b m c h gb hb hE hA hS hT ⟨0 + (16 * h + (p + 1)), hn⟩ (by show (0 + (16 * h + (p + 1))) / 16 = h; omega)
      p (by show (0 + (16 * h + (p + 1))) % 16 = p + 1; omega) hp _ (left_stands p (by omega) (Nat.lt_of_succ_lt hn))

/-- The result block the last point of a half leaves. -/
theorem left_result (hn : 0 + (16 * h + 15) < cfg0.N) : (leftAt m c (16 * h + 15) hn).1 (ValueIdx.ix3 (0 : Fin 1) (0 : Fin 1) b)
      = lse (fun k => ((alpha E A S 8191 k : ℝ) : EReal) + m ((c : Thread nD τ).loc main_arg5) (ValueIdx.ix1 k))
        - ((∑ l ∈ Finset.range 8192, piece E A S T l) + m ((c : Thread nD τ).loc main_arg5) (ValueIdx.ix1 (T 8191))) :=
  point_last E A S T b m c h gb hb hE hA hS hT ⟨0 + (16 * h + 15), hn⟩ (by show (0 + (16 * h + 15)) / 16 = h; omega)
    (by show (0 + (16 * h + 15)) % 16 = 15; omega) _ (left_stands E A S T b m c h gb hb hE hA hS hT 14 (by omega) (Nat.lt_of_succ_lt hn))

end

/-- The array the kernel returns, at half `h` and row `b`. -/
theorem G5_apply (E : ℕ → Fin 48 → ℝ) (A : Fin 48 → Fin 48 → ℝ) (S : Fin 48 → ℝ) (T : ℕ → Fin 48)
    (m : (ℓ : Loc nD τ sig) → Buf (Elt Ideal) ℓ) (c : Dev nD) (h : Fin 2) (b : Fin 32) (gb : Fin 64) (hb : gb.val = 32 * h.val + b.val)
    (hE : ∀ (l : Fin 8192) (t : Fin 48), m ((c : Thread nD τ).loc main_arg0) (ValueIdx.ix3 gb l t) = ((E l.val t : ℝ) : EReal))
    (hA : ∀ k t : Fin 48, m ((c : Thread nD τ).loc main_arg3) (ValueIdx.ix2 k t) = ((A k t : ℝ) : EReal))
    (hS : ∀ t : Fin 48, m ((c : Thread nD τ).loc main_arg4) (ValueIdx.ix1 t) = ((S t : ℝ) : EReal))
    (hT : ∀ l : Fin 8192, (m ((c : Thread nD τ).loc main_arg1) (ValueIdx.ix2 gb l)).toNat = (T l.val).val) :
    G5 m c (ValueIdx.ix3 h (0 : Fin 1) b)
      = lse (fun k => ((alpha E A S 8191 k : ℝ) : EReal) + m ((c : Thread nD τ).loc main_arg5) (ValueIdx.ix1 k))
        - ((∑ l ∈ Finset.range 8192, piece E A S T l) + m ((c : Thread nD τ).loc main_arg5) (ValueIdx.ix1 (T 8191))) := by
  have hN : cfg0.N = 32 := N_0
  have hp : pt5Of (ValueIdx.ix3 h (0 : Fin 1) b) = 16 * h.val + 15 := by
    show 16 * (1 * (h.val / 1 - 0) + 1 * (0 / 1 - 0) + 1 * (b.val / 32 - 0)) + 15 = _
    omega
  have hl : loc5Of (ValueIdx.ix3 h (0 : Fin 1) b) = ValueIdx.ix3 (0 : Fin 1) (0 : Fin 1) b := by
    funext a
    fin_cases a
    · exact Fin.ext (Nat.mod_one _)
    · rfl
    · exact Fin.ext (Nat.mod_eq_of_lt b.isLt)
  have hn : 0 + (16 * h.val + 15) < cfg0.N := by rw [hN]; omega
  have hlt : pt5Of (ValueIdx.ix3 h (0 : Fin 1) b) < cfg0.N := by rw [hp, hN]; omega
  unfold G5
  rw [dif_pos hlt, hl]
  exact (congrFun (congrArg Prod.fst (fold0_congr m c _ _ (16 * h.val + 15) hn hp)) _).trans
    (left_result E A S T b m c h.val gb hb hE hA hS hT hn)

end Cert.Crf
-- ==== Proof.RefAlpha.lean ====
/- The reference's states under the preconditions: before each trip the carried array holds the forward variables. -/
module
public import proofs.«01_k».proof.Proof.Alpha
public import proofs.«01_k».proof.Proof.RefStep
@[expose] public section
noncomputable section
namespace Cert.Crf
open Idealize.ShloMosaic Idealize.ShloMosaic.ValueIdx Cert.ReferenceIdeal Cert.ReferenceIdeal.Gen Cert.ReferenceIdeal.Step

variable (a0 : FVec Ideal S64x8192x48 .f32) (a2 : IVec S64x8192 1) (a3 : FVec Ideal S48x48 .f32) (a4 : FVec Ideal S48 .f32)
  (E : Fin 64 → ℕ → Fin 48 → ℝ) (A : Fin 48 → Fin 48 → ℝ) (S : Fin 48 → ℝ)

/-- The emissions the loop reads: position `j + 1`. -/
theorem loopEm_apply (j : Fin 8191) (b : Fin 64) (t : Fin 48) : A_main_v6 (F := Ideal) a0 a2 a4 (ix3 j b t) = a0 (ix3 b j.succ t) := by
  unfold A_main_v6
  rw [extractStridedSlice_apply _ _ _ _ (ix3 j.succ b t) (by
    intro a
    fin_cases a
    · exact Nat.add_comm _ _
    · simp
    · simp)]
  exact transpose_apply _ _ _ _ _ (by intro a; fin_cases a <;> rfl)

/-- The mask the loop reads: position `j + 1`. -/
theorem loopMask_apply (j : Fin 8191) (b : Fin 64) : A_main_v8 (F := Ideal) a0 a2 a4 (ix2 j b) = a2 (ix2 b j.succ) := by
  unfold A_main_v8
  rw [extractStridedSlice_apply _ _ _ _ (ix2 j.succ b) (by
    intro a
    fin_cases a
    · exact Nat.add_comm _ _
    · simp)]
  exact transpose_apply _ _ _ _ _ (by intro a; fin_cases a <;> rfl)

/-- The first forward variables. -/
theorem firstAlpha_apply (b : Fin 64) (t : Fin 48) : A_main_v4 (F := Ideal) a0 a2 a4 (ix2 b t) = (a4 (ix1 t) + a0 (ix3 b (0 : Fin 8192) t) : EReal) := by
  have h3 : A_main_v3 (F := Ideal) a0 a2 a4 (ix2 b t) = a4 (ix1 t) := by
    unfold A_main_v3
    rw [broadcastInDim_apply _ _ _ _ (ix2 (0 : Fin 1) t) (by intro a; fin_cases a <;> rfl)]
    unfold A_main_v0
    exact broadcastInDim_apply _ _ _ _ _ (by intro a; fin_cases a <;> rfl)
  have h2 : A_main_v2 (F := Ideal) a0 a2 a4 (ix2 b t) = a0 (ix3 b (0 : Fin 8192) t) := by
    unfold A_main_v2
    rw [shapeCast_apply _ _ _ (ix3 b (0 : Fin 1) t) (by
      rw [Shape.rowMajor_val_three, Shape.rowMajor_val_two]; show (b.val * 1 + 0) * 48 + t.val = b.val * 48 + t.val; omega)]
    unfold A_main_v1
    exact extractStridedSlice_apply _ _ _ _ _ (by intro a; fin_cases a <;> simp)
  exact congrArg₂ (fun x y : EReal => x + y) h3 h2

/-- The states of the loop. -/
theorem iter_alpha (hE : ∀ b (l : Fin 8192) t, a0 (ix3 b l t) = ((E b l.val t : ℝ) : EReal)) (hA : ∀ k t, a3 (ix2 k t) = ((A k t : ℝ) : EReal))
    (hS : ∀ t, a4 (ix1 t) = ((S t : ℝ) : EReal)) (hM : ∀ b l, a2 (ix2 b l) = 1#1)
    (it : ℕ → State Ideal) (h0 : it 0 = init a3 a0 a2 a4) (hs : ∀ n, it (n + 1) = step n (it n)) :
    ∀ n, n ≤ 8191 → (∀ b t, (it n).main_v9_4 (ix2 b t) = ((alpha (E b) A S n t : ℝ) : EReal))
      ∧ (it n).main_v9_0 = A_main_v6 (F := Ideal) a0 a2 a4 ∧ (it n).main_v9_1 = A_main_v8 (F := Ideal) a0 a2 a4 ∧ (it n).main_v9_2 = a3
  | 0, _ => by
    rw [h0]
    refine ⟨fun b t => ?_, rfl, rfl, rfl⟩
    show A_main_v4 (F := Ideal) a0 a2 a4 (ix2 b t) = _
    rw [firstAlpha_apply, hE, hS, ← EReal.coe_add]
    rfl
  | n + 1, hn => by
    obtain ⟨h1, h2, h3, h4⟩ := iter_alpha hE hA hS hM it h0 hs n (by omega)
    rw [hs]
    refine ⟨fun b t => ?_, h2, h3, h4⟩
    show b36 n (it n) (ix2 b t) = _
    rw [b36_apply n (by omega) (it n) b t, h2, h3, h4, loopMask_apply, hM, ← lse_alpha (E b) A S n t]
    simp only [h1, loopEm_apply, hE, hA]
    rfl

end Cert.Crf
-- ==== Proof.Meet.lean ====
/- The reference's result at an index, in the form the kernel's has: the log partition of a row minus the score of its path. -/
module
public import proofs.«01_k».proof.Proof.PathScore
public import proofs.«01_k».proof.Proof.RefScore
public import proofs.«01_k».proof.Proof.RefAlpha
@[expose] public section
noncomputable section
namespace Cert.Crf
open Idealize.ShloMosaic Idealize.ShloMosaic.ValueIdx Cert.ReferenceIdeal Cert.ReferenceIdeal.Gen Cert.ReferenceIdeal.Step

/-- The score of a path, piece by piece, is its start score, its emissions and its transitions. -/
theorem sum_piece (E : ℕ → Fin 48 → ℝ) (A : Fin 48 → Fin 48 → ℝ) (S : Fin 48 → ℝ) (T : ℕ → Fin 48) :
    ∑ l ∈ Finset.range 8192, piece E A S T l = (((S (T 0) : ℝ) : EReal) + ∑ l : Fin 8192, ((E l.val (T l.val) : ℝ) : EReal))
      + ∑ l : Fin 8191, ((A (T l.val) (T (l.val + 1)) : ℝ) : EReal) := by
  unfold piece
  rw [Finset.sum_add_distrib, Finset.sum_range (n := 8192), Finset.sum_range_succ' _ 8191, Finset.sum_range (n := 8191)]
  show _ + ((∑ l : Fin 8191, ((A (T l.val) (T (l.val + 1)) : ℝ) : EReal)) + ((S (T 0) : ℝ) : EReal)) = _
  rw [add_comm (∑ l : Fin 8191, ((A (T l.val) (T (l.val + 1)) : ℝ) : EReal)), ← add_assoc, add_comm (∑ l : Fin 8192, ((E l.val (T l.val) : ℝ) : EReal))]

variable (a0 : FVec Ideal S64x8192x48 .f32) (a1 : IVec S64x8192 32) (a2 : IVec S64x8192 1) (a3 : FVec Ideal S48x48 .f32) (a4 a5 : FVec Ideal S48 .f32)

/-- The reference's result at half `h` and row `b`. -/
theorem reference_apply (E : Fin 64 → ℕ → Fin 48 → ℝ) (A : Fin 48 → Fin 48 → ℝ) (S : Fin 48 → ℝ) (T : Fin 64 → ℕ → Fin 48)
    (hE : ∀ b (l : Fin 8192) t, a0 (ix3 b l t) = ((E b l.val t : ℝ) : EReal)) (hA : ∀ k t, a3 (ix2 k t) = ((A k t : ℝ) : EReal))
    (hS : ∀ t, a4 (ix1 t) = ((S t : ℝ) : EReal)) (hM : ∀ b l, a2 (ix2 b l) = 1#1)
    (hT : ∀ b (l : Fin 8192), (a1 (ix2 b l)).toNat = (T b l.val).val)
    (it : ℕ → State Ideal) (h0 : it 0 = init a3 a0 a2 a4) (hs : ∀ n, it (n + 1) = step n (it n))
    (h : Fin 2) (b' : Fin 32) (b : Fin 64) (hb : b.val = 32 * h.val + b'.val) :
    R_main_v92 (it 8191) a0 a1 a2 a3 a4 a5 (ix3 h (0 : Fin 1) b')
      = lse (fun k => ((alpha (E b) A S 8191 k : ℝ) : EReal) + a5 (ix1 k))
        - ((∑ l ∈ Finset.range 8192, piece (E b) A S (T b) l) + a5 (ix1 (T b 8191))) := by
  have hlt : ∀ b (l : Fin 8192), (a1 (ix2 b l)).toNat < 48 := fun b l => by rw [hT]; exact (T b l.val).isLt
  have hg : ∀ l : Fin 8192, tagAt a1 b l = T b l.val := fun l => tagOf_eq _ _ (hT b l)
  rw [result_apply a0 a1 a2 a3 a4 a5 hlt hM (it 8191) h b' b hb, sum_piece]
  have ha := (iter_alpha a0 a2 a3 a4 E A S hE hA hS hM it h0 hs 8191 (le_refl _)).1
  refine congrArg₂ (· - ·) (congrArg lse (funext fun k => ?_)) (congrArg₂ (· + ·) (congrArg₂ (· + ·) (congrArg₂ (· + ·) ?_ ?_) ?_) ?_)
  · rw [ha]
  · rw [hg, hS]; rfl
  · exact Finset.sum_congr rfl fun (l : Fin 8192) _ => by rw [hg, hE]
  · exact Finset.sum_congr rfl fun (l : Fin 8191) _ => by rw [hg, hg, hA]; rfl
  · rw [hg]; rfl

end Cert.Crf
-- ==== Proof.Tame.lean ====
/- What the precondition says of the arguments, entry by entry. -/
module
public import proofs.«01_k».proof.Proof.Gen.Pre_inputs_tame
public import proofs.«01_k».proof.Proof.RefStep
public import Idealize.ShloMosaic.Lib.WordCmp
@[expose] public section
noncomputable section
namespace Cert.Crf
open Idealize.ShloMosaic Cert.Pre_inputs_tame

/-- A number whose absolute value is below plus infinity is a real. -/
theorem real_of (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  rw [bits_top] at h
  have h' : BitVec.ofBool (decide (max x (-x) < ⊤)) = 1#1 := h
  have hlt : max x (-x) < ⊤ := by
    by_contra hn
    rw [decide_eq_false hn] at h'
    exact absurd h' (by decide)
  refine (EReal.coe_toReal ?_ ?_).symm
  · rintro rfl
    exact absurd (lt_of_le_of_lt (le_max_left _ _) hlt) (lt_irrefl _)
  · rintro rfl
    exact absurd (lt_of_le_of_lt (le_max_right _ _) hlt) (by simp)

section
variable [Facts] (a0 : FVec Ideal S64x8192x48 .f32) (a1 : IVec S64x8192 32) (a2 : IVec S64x8192 1) (a3 : FVec Ideal S48x48 .f32) (a4 a5 : FVec Ideal S48 .f32)

/-- The emissions are reals. -/
theorem tame_emissions (h : (fn (F := Ideal) a0 a1 a2 a3 a4 a5).1 = fun _ => 1#1) (i : S64x8192x48.Idx) : a0 i = (((a0 i : EReal).toReal : ℝ) : EReal) :=
  real_of _ (congrFun h i)

/-- The tags are below 48. -/
theorem tame_tags (h : (fn (F := Ideal) a0 a1 a2 a3 a4 a5).2.1 = fun _ => 1#1) (i : S64x8192.Idx) : (a1 i).toNat < 48 := by
  have e : IntOp.andi (IntOp.cmpi .sge (a1 i) 0#32) (IntOp.cmpi .slt (a1 i) (BitVec.ofNat 32 48)) = 1#1 := congrFun h i
  rw [WordCmp.andi_sge_zero_slt_ofNat (by decide)] at e
  by_contra hn
  rw [decide_eq_false hn] at e
  exact absurd e (by decide)

/-- The mask is set. -/
theorem tame_mask (h : (fn (F := Ideal) a0 a1 a2 a3 a4 a5).2.2.1 = fun _ => 1#1) (i : S64x8192.Idx) : a2 i = 1#1 := congrFun h i

/-- The transitions are reals. -/
theorem tame_transitions (h : (fn (F := Ideal) a0 a1 a2 a3 a4 a5).2.2.2.1 = fun _ => 1#1) (i : S48x48.Idx) : a3 i = (((a3 i : EReal).toReal : ℝ) : EReal) :=
  real_of _ (congrFun h i)

/-- The start scores are reals. -/
theorem tame_start (h : (fn (F := Ideal) a0 a1 a2 a3 a4 a5).2.2.2.2 = fun _ => 1#1) (i : S48.Idx) : a4 i = (((a4 i : EReal).toReal : ℝ) : EReal) :=
  real_of _ (congrFun h i)

end
end Cert.Crf
-- ==== Proof.Agree.lean ====
/- The two results agree: on tame arguments the kernel's array is the reference's, index by index. -/
module
public import proofs.«01_k».proof.Proof.Result
public import proofs.«01_k».proof.Proof.Meet
public import proofs.«01_k».proof.Proof.Tame
public import proofs.«01_k».proof.Defs
@[expose] public section
noncomputable section
namespace Cert.Crf
open Idealize.SL.Sem Idealize.ShloMosaic Idealize.ShloMosaic.TcCoe Cert.KernelIdeal Cert.KernelIdeal.Gen Cert.KernelIdeal.Value

variable (a0 : FVec Ideal S64x8192x48 .f32) (a1 : IVec S64x8192 32) (a3 : FVec Ideal S48x48 .f32) (a4 : FVec Ideal S48 .f32)

/-- A position of the sequence, from a number. -/
abbrev posOf (n : ℕ) : Fin 8192 := ⟨n % 8192, Nat.mod_lt _ (by decide)⟩
/-- A position is the one its number names. -/
theorem posOf_val (l : Fin 8192) : posOf l.val = l := Fin.ext (Nat.mod_eq_of_lt l.isLt)

/-- The emissions of a row as reals. -/
def realE (b : Fin 64) (n : ℕ) (t : Fin 48) : ℝ := (a0 (ValueIdx.ix3 b (posOf n) t) : EReal).toReal
/-- The transitions as reals. -/
def realA (k t : Fin 48) : ℝ := (a3 (ValueIdx.ix2 k t) : EReal).toReal
/-- The start scores as reals. -/
def realS (t : Fin 48) : ℝ := (a4 (ValueIdx.ix1 t) : EReal).toReal
/-- The path of a row. -/
def pathT (b : Fin 64) (n : ℕ) : Fin 48 := tagOf (a1 (ValueIdx.ix2 b (posOf n)))

/-- On tame arguments the reference's result is the kernel's. -/
theorem results_agree [Cert.Pre_inputs_tame.Facts] (m : (ℓ : Loc nD τ sig) → Buf (Elt Ideal) ℓ) (hm : Cert.Pre_KernelIdeal_inputs_tame m) (c : Dev nD)
    (it : ℕ → Cert.ReferenceIdeal.Step.State Ideal)
    (h0 : it 0 = Cert.ReferenceIdeal.Step.init (m ((c : Thread nD τ).loc main_arg3)) (m ((c : Thread nD τ).loc main_arg0)) (m ((c : Thread nD τ).loc main_arg2)) (m ((c : Thread nD τ).loc main_arg4)))
    (hs : ∀ n, it (n + 1) = Cert.ReferenceIdeal.Step.step n (it n)) :
    (Cert.ReferenceIdeal.Step.R_main_v92 (it 8191) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) : FVec Ideal S2x1x32 .f32) = G5 m c := by
  obtain ⟨p0, p1, p2, p3, p4⟩ := hm c
  have hE : ∀ (b : Fin 64) (l : Fin 8192) (t : Fin 48), m ((c : Thread nD τ).loc main_arg0) (ValueIdx.ix3 b l t)
      = ((realE (m ((c : Thread nD τ).loc main_arg0)) b l.val t : ℝ) : EReal) := fun b l t => by
    unfold realE; rw [posOf_val]; exact tame_emissions _ _ _ _ _ _ p0 _
  have hA : ∀ k t : Fin 48, m ((c : Thread nD τ).loc main_arg3) (ValueIdx.ix2 k t) = ((realA (m ((c : Thread nD τ).loc main_arg3)) k t : ℝ) : EReal) :=
    fun k t => tame_transitions _ _ _ _ _ _ p3 _
  have hS : ∀ t : Fin 48, m ((c : Thread nD τ).loc main_arg4) (ValueIdx.ix1 t) = ((realS (m ((c : Thread nD τ).loc main_arg4)) t : ℝ) : EReal) :=
    fun t => tame_start _ _ _ _ _ _ p4 _
  have hM : ∀ (b : Fin 64) (l : Fin 8192), m ((c : Thread nD τ).loc main_arg2) (ValueIdx.ix2 b l) = 1#1 := fun b l => tame_mask _ _ _ _ _ _ p2 _
  have hT : ∀ (b : Fin 64) (l : Fin 8192), (m ((c : Thread nD τ).loc main_arg1) (ValueIdx.ix2 b l)).toNat = (pathT (m ((c : Thread nD τ).loc main_arg1)) b l.val).val := fun b l => by
    unfold pathT; rw [posOf_val]; exact (tagOf_val _ (tame_tags _ _ _ _ _ _ p1 _)).symm
  refine funext fun (i : S2x1x32.Idx) => ?_
  have h1 : i 1 = (0 : Fin 1) := Subsingleton.elim (α := Fin 1) _ _
  have hi : i = ValueIdx.ix3 (i 0) (0 : Fin 1) (i 2) :=
    (ValueIdx.eq_ix3 i).trans (congrArg (fun k : Fin 1 => ValueIdx.ix3 (i 0) k (i 2)) h1)
  rw [hi]
  have hlt : 32 * (i 0).val + (i 2).val < 64 := by
    have h1 : (i 0).val < 2 := (i 0).isLt
    have h2 : (i 2).val < 32 := (i 2).isLt
    omega
  exact (reference_apply (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) _ _ _ _ hE hA hS hM hT it h0 hs (i 0) (i 2) ⟨32 * (i 0).val + (i 2).val, hlt⟩ rfl).trans
    (G5_apply _ _ _ _ m c (i 0) (i 2) ⟨32 * (i 0).val + (i 2).val, hlt⟩ rfl (hE _) hA hS (hT _)).symm

end Cert.Crf
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_tame
public import proofs.«01_k».proof.Proof.Gen.KernelIdeal.Value
public import proofs.«01_k».proof.Proof.Gen.ReferenceIdeal.Run
public import proofs.«01_k».proof.Proof.Gen.ReferenceIdeal.StepRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel runs from every memory and leaves its arguments unchanged. -/
theorem frame_kernel : Cert.quiescent_Kernel (hKernel := Cert.Kernel.Gen.facts) := fun m ρ _ => Cert.Kernel.Gen.frame m ρ

/-- So does the kernel over the extended reals. -/
theorem frame_kernelIdeal : Cert.quiescent_KernelIdeal (hKernelIdeal := Cert.KernelIdeal.Gen.facts) := fun m ρ _ => Cert.KernelIdeal.Gen.frame m ρ

/-- So does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- On tame arguments kernel and reference end with the same result. -/
theorem algebraic : Cert.algebraic_KernelIdeal_ReferenceIdeal_pre_inputs_tame (hKernelIdeal := Cert.KernelIdeal.Gen.facts)
    (hReferenceIdeal := Cert.ReferenceIdeal.Gen.facts) (hPre_inputs_tame := Cert.Pre_inputs_tame.Gen.facts) := fun m g m' g' hm hag => by
  refine ⟨fun c => Cert.KernelIdeal.Value.G5 m c, Cert.KernelIdeal.Value.run m g, ?_⟩
  have run := Cert.ReferenceIdeal.StepRun.run_iter (F := Ideal) m' g'
    (fun c n => Nat.rec (Cert.ReferenceIdeal.StepRun.initState m' c) (fun k s => Cert.ReferenceIdeal.Step.step k s) n) (fun _ => rfl) (fun _ _ => rfl)
  refine (θ_run Cert.ReferenceIdeal.defs _ _).mono (fun r h c => ⟨(h c).1.trans ?_, (h c).2⟩) run
  obtain ⟨e0, e1, e2, e3, e4, e5⟩ := hag c
  rw [e0, e1, e2, e3, e4, e5]
  refine Cert.Crf.results_agree m hm c _ ?_ (fun _ => rfl)
  show Cert.ReferenceIdeal.StepRun.initState m' c = _
  unfold Cert.ReferenceIdeal.StepRun.initState
  rw [e0, e2, e3, e4]

/-- Everything the certificate claims. -/
theorem claim : Cert.Claim := ⟨Cert.Kernel.Gen.facts, Cert.KernelIdeal.Gen.facts, Cert.ReferenceIdeal.Gen.facts, Cert.Pre_inputs_tame.Gen.facts,
  frame_kernel, frame_kernelIdeal, fun m g _ => frame_kernelIdeal m g trivial, frame_reference, fun m g _ => frame_reference m g trivial, trivial, algebraic⟩

end Cert.Proof

end
